-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qkv.lean ====
abbrev S4x4096x4096 : Shape := ⟨3, ![4, 4096, 4096]⟩
abbrev S1x512 : Shape := ⟨2, ![1, 512]⟩
abbrev S4x4096x1536 : Shape := ⟨3, ![4, 4096, 1536]⟩
abbrev S_ : Shape := ⟨0, ![]⟩

class Facts : Prop where
  slices_S4x4096x4096_S4x4096x1536_0_0_2048 : S4x4096x4096.Slices ![0, 0, 2048] S4x4096x1536
  bitsLt_bf16_f32 : FTy.bits .bf16 < FTy.bits .f32
  bcast_S_S4x4096x1536 : S_.BroadcastsInDim S4x4096x1536 (![] : Fin 0 → Fin S4x4096x1536.rank)

variable [Facts]

def fn {F : FTy → Type} [FloatOps F] (main_arg0 : FVec F S4x4096x4096 .bf16) (main_arg1 : FVec F S1x512 .f32) : IVec S4x4096x1536 1 :=
  let main_v0 : FVec F S4x4096x1536 .bf16 := (extractStridedSlice S4x4096x1536 ![0, 0, 2048] · slices_S4x4096x4096_S4x4096x1536_0_0_2048) main_arg0
  let main_v1 : FVec F S4x4096x1536 .f32 := (extf .f32 · bitsLt_bf16_f32) main_v0
  let main_v2 : FVec F S4x4096x1536 .f32 := Host.absf main_v1
  let main_cst : FVec F S_ .f32 := constant S_ .f32 0x7F800000#32
  let main_v3 : FVec F S4x4096x1536 .f32 := broadcastInDim S4x4096x1536 ![] bcast_S_S4x4096x1536 main_cst
  let main_v4 : IVec S4x4096x1536 1 := cmpf .olt main_v2 main_v3
  main_v4
-- ==== Kernel.lean ====
abbrev S4x4096x4096 : Shape := ⟨3, ![4, 4096, 4096]⟩
abbrev S1x512 : Shape := ⟨2, ![1, 512]⟩
abbrev S512 : Shape := ⟨1, ![512]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x128 : Shape := ⟨3, ![4, 1, 128]⟩
abbrev S4x4096x512 : Shape := ⟨3, ![4, 4096, 512]⟩
abbrev S4x256x512 : Shape := ⟨3, ![4, 256, 512]⟩
abbrev S4x4x128x128 : Shape := ⟨4, ![4, 4, 128, 128]⟩
abbrev S1x256x128 : Shape := ⟨3, ![1, 256, 128]⟩
abbrev S256x128 : Shape := ⟨2, ![256, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 67
  | .vmem => 16
  | .smem => 0
  | _ => 0

abbrev bufTy : (tb : Table) → Fin (tcTables nBuf tb) → BufTy
  | .hbm, ⟨0, _⟩ => ⟨S4x4096x4096, .bf16⟩
  | .hbm, ⟨1, _⟩ => ⟨S1x512, .f32⟩
  | .hbm, ⟨2, _⟩ => ⟨S512, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S256, .f32⟩
  | .hbm, ⟨14, _⟩ => ⟨S256x1, .f32⟩
  | .hbm, ⟨15, _⟩ => ⟨S1x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .i1⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S1x256x256, .f32⟩
  | .hbm, ⟨26, _⟩ => ⟨S4x1x1, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S4x256x256, .f32⟩
  | .hbm, ⟨31, _⟩ => ⟨S_, .f32⟩
  | .hbm, ⟨32, _⟩ => ⟨S_, .f32⟩
  | .hbm, ⟨33, _⟩ => ⟨S4x256x256, .i1⟩
  | .hbm, ⟨34, _⟩ => ⟨S4x256x256, .f32⟩
  | .hbm, ⟨35, _⟩ => ⟨S4x256x256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S4x1, .f32⟩
  | .hbm, ⟨41, _⟩ => ⟨S4x256, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S4x1, .f32⟩
  | .hbm, ⟨50, _⟩ => ⟨S4x256, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4x256x1, .f32⟩
  | .hbm, ⟨59, _⟩ => ⟨S4x256x128, .f32⟩
  | .hbm, ⟨60, _⟩ => ⟨S4x256x1, .f32⟩
  | .hbm, ⟨61, _⟩ => ⟨S4x256x128, .f32⟩
  | .hbm, ⟨62, _⟩ => ⟨S4x1, .f32⟩
  | .hbm, ⟨63, _⟩ => ⟨S4x1x1, .f32⟩
  | .hbm, ⟨64, _⟩ => ⟨S4x1x128, .f32⟩
  | .hbm, ⟨65, _⟩ => ⟨S4x1x128, .f32⟩
  | .hbm, ⟨66, _⟩ => ⟨S4x4096x512, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S4x256x256, .f32⟩
  | .local _ .vmem, ⟨9, _⟩ => ⟨S4x256x128, .f32⟩
  | .local _ .vmem, ⟨10, _⟩ => ⟨S4x256x128, .f32⟩
  | .local _ .vmem, ⟨11, _⟩ => ⟨S4x1x128, .f32⟩
  | .local _ .vmem, ⟨12, _⟩ => ⟨S4x1x128, .f32⟩
  | .local _ .vmem, ⟨13, _⟩ => ⟨S4x256x512, .bf16⟩
  | .local _ .vmem, ⟨14, _⟩ => ⟨S4x256x512, .bf16⟩
  | .local _ .vmem, ⟨15, _⟩ => ⟨S4x4x128x128, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_1 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![c0_i32.toNat, arg0.toNat, c5_i32.toNat]

def cc0_transform_2 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc0_transform_3 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![c0_i32.toNat, arg0.toNat, c7_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x4096x4096 : Shape := ⟨3, ![4, 4096, 4096]⟩
abbrev S1x512 : Shape := ⟨2, ![1, 512]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x4x128x128 : Shape := ⟨4, ![4, 4, 128, 128]⟩
abbrev S4x4x32x128x128 : Shape := ⟨5, ![4, 4, 32, 128, 128]⟩
abbrev S32x4x4x128x128 : Shape := ⟨5, ![32, 4, 4, 128, 128]⟩
abbrev S1x4x4x128x128 : Shape := ⟨5, ![1, 4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S512 : Shape := ⟨1, ![512]⟩
abbrev S4x4096x4 : Shape := ⟨3, ![4, 4096, 4]⟩
abbrev S4x4096x4x1 : Shape := ⟨4, ![4, 4096, 4, 1]⟩
abbrev S1x1x512 : Shape := ⟨3, ![1, 1, 512]⟩

abbrev nBuf : Space → Nat
  | .hbm => 180
  | .vmem => 0
  | .smem => 0
  | _ => 0

abbrev hbmTy0_0 (i : Nat) : BufTy := match i % 128 with
  | 0 => ⟨S4x4096x4096, .bf16⟩
  | 1 => ⟨S1x512, .f32⟩
  | 2 => ⟨S4x4096x512, .bf16⟩
  | 3 => ⟨S4x4096x512, .bf16⟩
  | 4 => ⟨S4x4096x512, .bf16⟩
  | 5 => ⟨S4x4096x4x128, .bf16⟩
  | 6 => ⟨S4x4096x4x128, .bf16⟩
  | 7 => ⟨S4x4096x4x128, .bf16⟩
  | 8 => ⟨S4x4x4096x128, .bf16⟩
  | 9 => ⟨S4x4x4096x128, .f32⟩
  | 10 => ⟨S4x4x4096x128, .bf16⟩
  | 11 => ⟨S4x4x4096x128, .f32⟩
  | 12 => ⟨S4x4x4096x128, .bf16⟩
  | 13 => ⟨S4x4x4096x128, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S4, .f32⟩
  | 22 => ⟨S4, .f32⟩
  | 23 => ⟨S4, .f32⟩
  | 24 => ⟨S128, .f32⟩
  | 25 => ⟨S128x1, .f32⟩
  | 26 => ⟨S1x128, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .i1⟩
  | 33 => ⟨S_, .f32⟩
  | 34 => ⟨S128x128, .f32⟩
  | 35 => ⟨S128x128, .f32⟩
  | 36 => ⟨S1x128x128, .f32⟩
  | 37 => ⟨S4x1x1, .f32⟩
  | 38 => ⟨S4x128x128, .f32⟩
  | 39 => ⟨S4x128x128, .f32⟩
  | 40 => ⟨S4x128x128, .f32⟩
  | 41 => ⟨S4x128x128, .f32⟩
  | 42 => ⟨S_, .f32⟩
  | 43 => ⟨S_, .f32⟩
  | 44 => ⟨S4x128x128, .i1⟩
  | 45 => ⟨S4x128x128, .f32⟩
  | 46 => ⟨S4x128x128, .f32⟩
  | 47 => ⟨S_, .f32⟩
  | 48 => ⟨S128, .f32⟩
  | 49 => ⟨S128, .f32⟩
  | 50 => ⟨S1x128, .f32⟩
  | 51 => ⟨S4x1, .f32⟩
  | 52 => ⟨S4x128, .f32⟩
  | 53 => ⟨S4x128, .f32⟩
  | 54 => ⟨S4x128, .f32⟩
  | 55 => ⟨S4x128, .f32⟩
  | 56 => ⟨S_, .f32⟩
  | 57 => ⟨S128, .f32⟩
  | 58 => ⟨S128, .f32⟩
  | 59 => ⟨S1x128, .f32⟩
  | 60 => ⟨S4x1, .f32⟩
  | 61 => ⟨S4x128, .f32⟩
  | 62 => ⟨S4x128, .f32⟩
  | 63 => ⟨S4x128, .f32⟩
  | 64 => ⟨S4x128, .f32⟩
  | 65 => ⟨S_, .f32⟩
  | 66 => ⟨S4, .f32⟩
  | 67 => ⟨S4, .f32⟩
  | 68 => ⟨S4, .f32⟩
  | 69 => ⟨S_, .f32⟩
  | 70 => ⟨S4x4x128x128, .f32⟩
  | 71 => ⟨S4x4x32x128x128, .f32⟩
  | 72 => ⟨S32x4x4x128x128, .f32⟩
  | 73 => ⟨S4x4x32x128x128, .f32⟩
  | 74 => ⟨S32x4x4x128x128, .f32⟩
  | 75 => ⟨S4x4x32x128x128, .f32⟩
  | 76 => ⟨S32x4x4x128x128, .f32⟩
  | 77 => ⟨S_, .f32⟩
  | 78 => ⟨S32x4x4x128x128, .f32⟩
  | 79 => ⟨S_, .i32⟩
  | 80 => ⟨S32x4x4x128x128, .f32⟩
  | 81 => ⟨S32x4x4x128x128, .f32⟩
  | 82 => ⟨S32x4x4x128x128, .f32⟩
  | 83 => ⟨S4x128x128, .f32⟩
  | 84 => ⟨S4x128, .f32⟩
  | 85 => ⟨S4, .f32⟩
  | 86 => ⟨S4x128, .f32⟩
  | 87 => ⟨S_, .i32⟩
  | 88 => ⟨S4x4x128x128, .f32⟩
  | 89 => ⟨S32x4x4x128x128, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x4x4x128x128, .f32⟩
  | 97 => ⟨S4x4x128x128, .f32⟩
  | 98 => ⟨S_, .i32⟩
  | 99 => ⟨S_, .i32⟩
  | 100 => ⟨S_, .i32⟩
  | 101 => ⟨S_, .i32⟩
  | 102 => ⟨S1x4x4x128x128, .f32⟩
  | 103 => ⟨S4x4x128x128, .f32⟩
  | 104 => ⟨S_, .i32⟩
  | 105 => ⟨S_, .i32⟩
  | 106 => ⟨S_, .i32⟩
  | 107 => ⟨S_, .i32⟩
  | 108 => ⟨S1x4x4x128x128, .f32⟩
  | 109 => ⟨S4x4x128x128, .f32⟩
  | 110 => ⟨S4x4x128x128, .f32⟩
  | 111 => ⟨S1x4x128x128, .f32⟩
  | 112 => ⟨S4x4x128x128, .f32⟩
  | 113 => ⟨S4x4x128x128, .f32⟩
  | 114 => ⟨S4x4x128x128, .f32⟩
  | 115 => ⟨S4x4x128x128, .f32⟩
  | 116 => ⟨S1x4x128x1, .f32⟩
  | 117 => ⟨S4x4x128x128, .f32⟩
  | 118 => ⟨S4x4x128x128, .f32⟩
  | 119 => ⟨S4x4x128x128, .f32⟩
  | 120 => ⟨S1x4x1x1, .f32⟩
  | 121 => ⟨S4x4x128x128, .f32⟩
  | 122 => ⟨S4x4x128x128, .f32⟩
  | 123 => ⟨S1x4x128x1, .f32⟩
  | 124 => ⟨S4x4x128x128, .f32⟩
  | 125 => ⟨S4x4x128x128, .f32⟩
  | 126 => ⟨S4x4x128x128, .f32⟩
  | 127 => ⟨S4x4x128x128, .f32⟩
  | _ => ⟨S4x4096x4096, .bf16⟩

abbrev hbmTy0_1 (i : Nat) : BufTy := match i % 128 with
  | 0 => ⟨S1x4x4x128x128, .f32⟩
  | 1 => ⟨S_, .i32⟩
  | 2 => ⟨S_, .i32⟩
  | 3 => ⟨S_, .i32⟩
  | 4 => ⟨S_, .i32⟩
  | 5 => ⟨S32x4x4x128x128, .f32⟩
  | 6 => ⟨S_, .i32⟩
  | 7 => ⟨S_, .i32⟩
  | 8 => ⟨S4x4x32x128x128, .f32⟩
  | 9 => ⟨S4x4x4096x128, .f32⟩
  | 10 => ⟨S4x4096x4x128, .f32⟩
  | 11 => ⟨S4x4096x512, .bf16⟩
  | 12 => ⟨S4x4096x512, .f32⟩
  | 13 => ⟨S512, .f32⟩
  | 14 => ⟨S_, .f32⟩
  | 15 => ⟨S4x4096x4, .f32⟩
  | 16 => ⟨S4x4096x4x1, .f32⟩
  | 17 => ⟨S_, .f32⟩
  | 18 => ⟨S4x4096x4x1, .f32⟩
  | 19 => ⟨S4x4096x4x1, .f32⟩
  | 20 => ⟨S4x4096x4x128, .f32⟩
  | 21 => ⟨S4x4096x4x128, .f32⟩
  | 22 => ⟨S4x4096x4x128, .f32⟩
  | 23 => ⟨S_, .f32⟩
  | 24 => ⟨S4x4096x4, .f32⟩
  | 25 => ⟨S4x4096x4x1, .f32⟩
  | 26 => ⟨S_, .f32⟩
  | 27 => ⟨S4x4096x4x1, .f32⟩
  | 28 => ⟨S4x4096x4x1, .f32⟩
  | 29 => ⟨S4x4096x4x128, .f32⟩
  | 30 => ⟨S4x4096x4x128, .f32⟩
  | 31 => ⟨S_, .f32⟩
  | 32 => ⟨S4x4096x4x1, .f32⟩
  | 33 => ⟨S4x4096x4x1, .f32⟩
  | 34 => ⟨S4x4096x4x1, .f32⟩
  | 35 => ⟨S4x4096x4x128, .f32⟩
  | 36 => ⟨S4x4096x4x128, .f32⟩
  | 37 => ⟨S4x4096x512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S_, .f32⟩
  | 44 => ⟨S4x4096x512, .f32⟩
  | 45 => ⟨S4x4096x512, .f32⟩
  | 46 => ⟨S_, .f32⟩
  | 47 => ⟨S4x4096x512, .f32⟩
  | 48 => ⟨S4x4096x512, .f32⟩
  | 49 => ⟨S4x4096x512, .f32⟩
  | 50 => ⟨S4x4096x512, .f32⟩
  | 51 => ⟨S4x4096x512, .bf16⟩
  | _ => ⟨S4x4096x4096, .bf16⟩

abbrev hbmTy (i : Nat) : BufTy := match i / 128 with
  | 0 => hbmTy0_0 i
  | 1 => hbmTy0_1 i
  | _ => ⟨S4x4096x4096, .bf16⟩

abbrev bufTy : (tb : Table) → Fin (tcTables nBuf tb) → BufTy
  | .hbm, ⟨i, _⟩ => hbmTy i
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_c : Ref sig .tc := ⟨.hbm, 79, rfl⟩
abbrev main_v64_0 : Ref sig .tc := ⟨.hbm, 80, rfl⟩
abbrev main_v64_1 : Ref sig .tc := ⟨.hbm, 81, rfl⟩
abbrev main_v64_2 : Ref sig .tc := ⟨.hbm, 82, rfl⟩
abbrev main_v64_3 : Ref sig .tc := ⟨.hbm, 83, rfl⟩
abbrev main_v64_4 : Ref sig .tc := ⟨.hbm, 84, rfl⟩
abbrev main_v64_5 : Ref sig .tc := ⟨.hbm, 85, rfl⟩
abbrev main_v64_6 : Ref sig .tc := ⟨.hbm, 86, rfl⟩
abbrev main_v64_7 : Ref sig .tc := ⟨.hbm, 87, rfl⟩
abbrev main_v64_8 : Ref sig .tc := ⟨.hbm, 88, rfl⟩
abbrev main_v64_9 : Ref sig .tc := ⟨.hbm, 89, rfl⟩
abbrev main_while0c_c_23 : Ref sig .tc := ⟨.hbm, 90, rfl⟩
abbrev main_while0c_v96 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v96 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_call2_v0 : Ref sig .tc := ⟨.hbm, 102, rfl⟩
abbrev main_while0b_v97 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_v101 : Ref sig .tc := ⟨.hbm, 112, rfl⟩
abbrev main_while0b_v102 : Ref sig .tc := ⟨.hbm, 113, rfl⟩
abbrev main_while0b_v103 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_v113 : Ref sig .tc := ⟨.hbm, 124, rfl⟩
abbrev main_while0b_v114 : Ref sig .tc := ⟨.hbm, 125, rfl⟩
abbrev main_while0b_v115 : Ref sig .tc := ⟨.hbm, 126, rfl⟩
abbrev main_while0b_v116 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v117 : Ref sig .tc := ⟨.hbm, 133, rfl⟩
abbrev main_while0b_c_23 : Ref sig .tc := ⟨.hbm, 134, rfl⟩
abbrev main_while0b_v118 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_9 : Ref sig .tc := ⟨.hbm, 142, rfl⟩
abbrev main_v71 : Ref sig .tc := ⟨.hbm, 143, rfl⟩
abbrev main_v72 : Ref sig .tc := ⟨.hbm, 144, rfl⟩
abbrev main_cst_10 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_11 : Ref sig .tc := ⟨.hbm, 151, rfl⟩
abbrev main_v78 : Ref sig .tc := ⟨.hbm, 152, rfl⟩
abbrev main_v79 : Ref sig .tc := ⟨.hbm, 153, rfl⟩
abbrev main_cst_12 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_cst_13 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S4x4096x512 : Shape := ⟨3, ![4, 4096, 512]⟩
abbrev S1x4x4096x256 : Shape := ⟨4, ![1, 4, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S16384x1024 : Shape := ⟨2, ![16384, 1024]⟩
abbrev S16384x512 : Shape := ⟨2, ![16384, 512]⟩
abbrev S4x4096x256 : Shape := ⟨3, ![4, 4096, 256]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S1024x512 : Shape := ⟨2, ![1024, 512]⟩
abbrev S1024x256 : Shape := ⟨2, ![1024, 256]⟩
abbrev S256x512 : Shape := ⟨2, ![256, 512]⟩
abbrev S512x1024 : Shape := ⟨2, ![512, 1024]⟩
abbrev S256x256 : Shape := ⟨2, ![256, 256]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x4x4096x256, .f32⟩
  | .hbm, ⟨4, _⟩ => ⟨S1x1024x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x512, .bf16⟩
  | .hbm, ⟨11, _⟩ => ⟨S16384x512, .bf16⟩
  | .hbm, ⟨12, _⟩ => ⟨S4x4096x256, .f32⟩
  | .hbm, ⟨13, _⟩ => ⟨S16384x256, .f32⟩
  | .hbm, ⟨14, _⟩ => ⟨S1024x1024, .f32⟩
  | .hbm, ⟨15, _⟩ => ⟨S1024x1024, .f32⟩
  | .hbm, ⟨16, _⟩ => ⟨S256x1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x1024, .f32⟩
  | .local _ .vmem, ⟨9, _⟩ => ⟨S1024x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S4x4096x512 : Shape := ⟨3, ![4, 4096, 512]⟩
abbrev S1x4x4096x256 : Shape := ⟨4, ![1, 4, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024x1024 : Shape := ⟨2, ![1024, 1024]⟩
abbrev S_ : Shape := ⟨0, ![]⟩
abbrev S4x4096x256 : Shape := ⟨3, ![4, 4096, 256]⟩
abbrev S256x1024 : Shape := ⟨2, ![256, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x4x4096x256, .f32⟩
  | .hbm, ⟨4, _⟩ => ⟨S1x1024x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S1024x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x256, .f32⟩
  | .hbm, ⟨19, _⟩ => ⟨S256x1024, .f32⟩
  | .hbm, ⟨20, _⟩ => ⟨S4x4096x1024, .f32⟩
  | .hbm, ⟨21, _⟩ => ⟨S1024x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S1x1x1024, .f32⟩
  | .hbm, ⟨62, _⟩ => ⟨S4x4096x1024, .f32⟩
  | .hbm, ⟨63, _⟩ => ⟨S4x4096x1024, .f32⟩
  | .hbm, ⟨64, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024x4096 : Shape := ⟨3, ![1, 1024, 4096]⟩
abbrev S16384x1024 : Shape := ⟨2, ![16384, 1024]⟩
abbrev S1024x4096 : Shape := ⟨2, ![1024, 4096]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S16384x4096 : Shape := ⟨2, ![16384, 4096]⟩
abbrev S512x1024 : Shape := ⟨2, ![512, 1024]⟩
abbrev S512x128 : Shape := ⟨2, ![512, 128]⟩
abbrev S512x4096 : Shape := ⟨2, ![512, 4096]⟩
abbrev S1024x1024 : Shape := ⟨2, ![1024, 1024]⟩

abbrev nBuf : Space → Nat
  | .hbm => 25
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S16384x1024, .f32⟩
  | .hbm, ⟨3, _⟩ => ⟨S1024x4096, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S4096, .i32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S4096x64, .f32⟩
  | .hbm, ⟨23, _⟩ => ⟨S4096x128, .f32⟩
  | .hbm, ⟨24, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1024x4096, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x4096x1024 : Shape := ⟨3, ![4, 4096, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S4x4096x512 : Shape := ⟨3, ![4, 4096, 512]⟩
abbrev S4096 : Shape := ⟨1, ![4096]⟩
abbrev S4x4096x4x128 : Shape := ⟨4, ![4, 4096, 4, 128]⟩
abbrev S4x4x4096x128 : Shape := ⟨4, ![4, 4, 4096, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4x4x4096x64 : Shape := ⟨4, ![4, 4, 4096, 64]⟩
abbrev S1x1x4096x64 : Shape := ⟨4, ![1, 1, 4096, 64]⟩
abbrev S4x4096x2048 : Shape := ⟨3, ![4, 4096, 2048]⟩
abbrev S16384x4096 : Shape := ⟨2, ![16384, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S1024x4096, .f32⟩
  | .hbm, ⟨3, _⟩ => ⟨S4x4096x4096, .f32⟩
  | .hbm, ⟨4, _⟩ => ⟨S4x4096x512, .f32⟩
  | .hbm, ⟨5, _⟩ => ⟨S4x4096x512, .f32⟩
  | .hbm, ⟨6, _⟩ => ⟨S4096, .i32⟩
  | .hbm, ⟨7, _⟩ => ⟨S4x4096x4x128, .f32⟩
  | .hbm, ⟨8, _⟩ => ⟨S4x4x4096x128, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4x4x4096x64, .f32⟩
  | .hbm, ⟨26, _⟩ => ⟨S4x4x4096x64, .f32⟩
  | .hbm, ⟨27, _⟩ => ⟨S1x1x4096x64, .f32⟩
  | .hbm, ⟨28, _⟩ => ⟨S4x4x4096x64, .f32⟩
  | .hbm, ⟨29, _⟩ => ⟨S4x4x4096x64, .f32⟩
  | .hbm, ⟨30, _⟩ => ⟨S1x1x4096x64, .f32⟩
  | .hbm, ⟨31, _⟩ => ⟨S4x4x4096x64, .f32⟩
  | .hbm, ⟨32, _⟩ => ⟨S4x4x4096x64, .f32⟩
  | .hbm, ⟨33, _⟩ => ⟨S4x4x4096x64, .f32⟩
  | .hbm, ⟨34, _⟩ => ⟨S1x1x4096x64, .f32⟩
  | .hbm, ⟨35, _⟩ => ⟨S4x4x4096x64, .f32⟩
  | .hbm, ⟨36, _⟩ => ⟨S4x4x4096x64, .f32⟩
  | .hbm, ⟨37, _⟩ => ⟨S1x1x4096x64, .f32⟩
  | .hbm, ⟨38, _⟩ => ⟨S4x4x4096x64, .f32⟩
  | .hbm, ⟨39, _⟩ => ⟨S4x4x4096x64, .f32⟩
  | .hbm, ⟨40, _⟩ => ⟨S4x4x4096x64, .f32⟩
  | .hbm, ⟨41, _⟩ => ⟨S4x4x4096x128, .f32⟩
  | .hbm, ⟨42, _⟩ => ⟨S4x4096x4x128, .f32⟩
  | .hbm, ⟨43, _⟩ => ⟨S4x4x4096x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S4096, .f32⟩
  | .hbm, ⟨53, _⟩ => ⟨S4096x1, .f32⟩
  | .hbm, ⟨54, _⟩ => ⟨S1x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4x4x4096x64, .f32⟩
  | .hbm, ⟨61, _⟩ => ⟨S4x4x4096x64, .f32⟩
  | .hbm, ⟨62, _⟩ => ⟨S1x1x4096x64, .f32⟩
  | .hbm, ⟨63, _⟩ => ⟨S4x4x4096x64, .f32⟩
  | .hbm, ⟨64, _⟩ => ⟨S4x4x4096x64, .f32⟩
  | .hbm, ⟨65, _⟩ => ⟨S1x1x4096x64, .f32⟩
  | .hbm, ⟨66, _⟩ => ⟨S4x4x4096x64, .f32⟩
  | .hbm, ⟨67, _⟩ => ⟨S4x4x4096x64, .f32⟩
  | .hbm, ⟨68, _⟩ => ⟨S4x4x4096x64, .f32⟩
  | .hbm, ⟨69, _⟩ => ⟨S1x1x4096x64, .f32⟩
  | .hbm, ⟨70, _⟩ => ⟨S4x4x4096x64, .f32⟩
  | .hbm, ⟨71, _⟩ => ⟨S4x4x4096x64, .f32⟩
  | .hbm, ⟨72, _⟩ => ⟨S1x1x4096x64, .f32⟩
  | .hbm, ⟨73, _⟩ => ⟨S4x4x4096x64, .f32⟩
  | .hbm, ⟨74, _⟩ => ⟨S4x4x4096x64, .f32⟩
  | .hbm, ⟨75, _⟩ => ⟨S4x4x4096x64, .f32⟩
  | .hbm, ⟨76, _⟩ => ⟨S4x4x4096x128, .f32⟩
  | .hbm, ⟨77, _⟩ => ⟨S_, .f32⟩
  | .hbm, ⟨78, _⟩ => ⟨S4x4x4096x128, .f32⟩
  | .hbm, ⟨79, _⟩ => ⟨S4x4x4096x128, .f32⟩
  | .hbm, ⟨80, _⟩ => ⟨S4x4096x4x128, .f32⟩
  | .hbm, ⟨81, _⟩ => ⟨S4x4096x512, .f32⟩
  | .hbm, ⟨82, _⟩ => ⟨S4x4096x4x128, .f32⟩
  | .hbm, ⟨83, _⟩ => ⟨S4x4096x512, .f32⟩
  | .hbm, ⟨84, _⟩ => ⟨S4x4096x2048, .f32⟩
  | .hbm, ⟨85, _⟩ => ⟨S4x4096x1024, .f32⟩
  | .hbm, ⟨86, _⟩ => ⟨S4x4096x4096, .f32⟩
  | .hbm, ⟨87, _⟩ => ⟨S16384x4096, .f32⟩
  | .hbm, ⟨88, _⟩ => ⟨S16384x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩

abbrev nD : Nat := 1
abbrev τ : Topo := Topo.v7x

variable {F : FTy → Type} [FloatOps F]
-- ==== Proof.ProjBlock.lean ====
module

public import proofs.«01_k».proof.Proof.Gen.Kernel3Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.Proj

open Idealize.ShloMosaic Idealize.ShloMosaic.TcCoe Idealize.SL.Sem
open Idealize.ShloMosaic.Pipeline (Dat)
open Cert.Kernel3Ideal Cert.Kernel3Ideal.Gen

/-- One entry of the product of the token block with the weights. -/
def acc (X : FVec Ideal S512x1024 .f32) (W : FVec Ideal S1024x4096 .bf16) (r : Fin 512) (n : Fin 4096) : EReal :=
  ∑ k : Fin 1024, X (ix2 r k) * W (ix2 k n)

/-- One rotated entry: the product times the cosine table plus the product half a head further on times the signed sine table. -/
def rot (X : FVec Ideal S512x1024 .f32) (W : FVec Ideal S1024x4096 .bf16) (C S : FVec Ideal S512x128 .f32)
    (r : Fin 512) (n : Fin 4096) : EReal :=
  acc X W r n * C (ix2 r ⟨n.val % 128, by omega⟩)
    + acc X W r ⟨n.val / 128 * 128 + (n.val % 128 + 64) % 128, by omega⟩ * S (ix2 r ⟨n.val % 128, by omega⟩)

/-- The block the projection leaves: plain columns, then rotated columns (the second half of them scaled), then plain columns. -/
def blk (X : FVec Ideal S512x1024 .f32) (W : FVec Ideal S1024x4096 .bf16) (C S : FVec Ideal S512x128 .f32)
    (y : S512x4096.Idx) : EReal :=
  if (y 1 : ℕ) < 2048 then acc X W (y 0) (y 1)
  else if (y 1 : ℕ) < 2560 then rot X W C S (y 0) (y 1)
  else if (y 1 : ℕ) < 3072 then rot X W C S (y 0) (y 1) * Ideal.ofBits .f32 0x3DB504F3#32
  else acc X W (y 0) (y 1)

variable (m : (ℓ : Loc nD τ sig) → Buf (Elt Ideal) ℓ)

/-- After every point the carried weights are the weight block, rounded to the narrow format (the identity on ideal values). -/
theorem scratch (c : Dev nD) (t : Fin cfg0.N) :
    (outsAt0 m c t.val t.isLt).2 = (fun i => iblk m c 1 ⟨32 * (t.val / 32), Pipeline.run_start_lt t⟩ i : FVec Ideal S1024x4096 .bf16) := by
  refine Pipeline.eq_of_write_hold (fun n h => (outsAt0 m c n h).2) 32
    (fun t => (fun i => iblk m c 1 t i : FVec Ideal S1024x4096 .bf16)) (fun t h => ?_) (fun t h => ?_) t
  · show (outsAt0 m c t.val t.isLt).2 = _
    rw [outsAt0_A m c t h]
    frame_out
    funext y
    canon_tiles x h
    all_goals (open_payloads; pointwise)
    all_goals blk_ext
  · show (outsAt0 m c t.val t.isLt).2 = _
    rw [outsAt0_B m c t h]
    rfl

/-- What a later point leaves in the output block. -/
theorem out_B (c : Dev nD) (t : Fin cfg0.N) (h : ¬ t.val % 32 = 0) (y) :
    (outsAt0 m c t.val t.isLt).1 y = blk (iblk m c 0 t) (outsAt0 m c (t.val - 1) (Nat.lt_of_le_of_lt (Nat.sub_le _ _) t.isLt)).2
      (iblk m c 2 t) (iblk m c 3 t) y := by
  rw [outsAt0_B m c t h]
  frame_out
  simp only [read_unread_whole]
  generalize (outsAt0 m c (t.val - 1) (Nat.lt_of_le_of_lt (Nat.sub_le _ _) t.isLt)).2 = W
  clear h
  canon_tiles x h using (View.cover_of_tiledBy (s := S512x4096) _ ![512, 128] (by sl_kernel_rfl) y)
  all_goals (unfold blk; (repeat' split) <;> first | (exfalso; omega) | skip)
  all_goals (open_payloads; try unfold rot; unfold acc; pointwise)
  all_goals (try blk_point [])

end Cert.Proof.Proj

end
-- ==== Proof.ProjFirst.lean ====
module

public import proofs.«01_k».proof.Proof.Gen.Kernel3Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.ProjBlock

@[expose] public section

set_option maxRecDepth 16384

noncomputable section

namespace Cert.Proof.Proj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- What the first point leaves in the output block: the same block, over the weights it has just rounded into the scratch. -/
theorem out_A (c : Dev nD) (t : Fin cfg0.N) (h : t.val % 32 = 0) (y) :
    (outsAt0 m c t.val t.isLt).1 y = blk (iblk m c 0 t) (fun i => iblk m c 1 t i) (iblk m c 2 t) (iblk m c 3 t) y := by
  rw [outsAt0_A m c t h]
  frame_open
  simp (disch := decide) only [↓ View.readCov_skip, ↓ View.readCov_cons_toLoadRect, ↓ View.readCov_fill]
  frame_out
  clear h
  canon_tiles x h using (View.cover_of_tiledBy (s := S512x4096) _ ![512, 128] (by sl_kernel_rfl) y)
  all_goals (unfold blk; (repeat' split) <;> first | (exfalso; omega) | skip)
  all_goals (open_payloads; try unfold rot; unfold acc; pointwise)
  all_goals (try blk_point [])

end Cert.Proof.Proj

end
-- ==== Proof.ProjRef.lean ====
module

public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Proof.Proj

open Idealize.ShloMosaic Idealize.ShloMosaic.TcCoe Idealize.SL.Sem
open Cert.Reference3Ideal Cert.Reference3Ideal.Gen Cert.Reference3Ideal.Read

/-- One entry of the projection: a token's row against a column of the weights. -/
def accR (x0 : FVec Ideal S4x4096x1024 .f32) (x1 : FVec Ideal S1x1024x4096 .f32) (b : Fin 4) (s : Fin 4096) (n : Fin 4096) : EReal :=
  ∑ k : Fin 1024, x0 (ix3 b s k) * x1 (ix3 0 k n)

/-- One rotated entry, halves of a head spelt apart. -/
def rotR (x0 : FVec Ideal S4x4096x1024 .f32) (x1 : FVec Ideal S1x1024x4096 .f32) (b : Fin 4) (s : Fin 4096) (n : Fin 4096) : EReal :=
  if h : n.val % 128 < 64 then
    accR x0 x1 b s n * val_main_v19 (F := Ideal) (ix2 s ⟨n.val % 128, h⟩)
      - accR x0 x1 b s ⟨n.val / 128 * 128 + (n.val % 128 + 64) % 128, by omega⟩ * val_main_v20 (F := Ideal) (ix2 s ⟨n.val % 128, h⟩)
  else
    accR x0 x1 b s ⟨n.val / 128 * 128 + (n.val % 128 + 64) % 128, by omega⟩ * val_main_v20 (F := Ideal) (ix2 s ⟨n.val % 128 - 64, by omega⟩)
      + accR x0 x1 b s n * val_main_v19 (F := Ideal) (ix2 s ⟨n.val % 128 - 64, by omega⟩)

theorem v1_at (x0 : FVec Ideal S4x4096x1024 .f32) (x1 : FVec Ideal S1x1024x4096 .f32) (b : Fin 4) (s : Fin 4096) (n : Fin 4096) :
    val_main_v1 (F := Ideal) x0 x1 (ix3 b s n) = accR x0 x1 b s n := by
  rw [val_main_v1_apply]
  unfold accR
  refine Finset.sum_congr rfl fun k _ => ?_
  rw [val_main_v0_apply]
  blk_point []

/-- The same at any index. -/
theorem v1_eq (x0 : FVec Ideal S4x4096x1024 .f32) (x1 : FVec Ideal S1x1024x4096 .f32) (i : S4x4096x4096.Idx) :
    val_main_v1 (F := Ideal) x0 x1 i = accR x0 x1 (i 0) (i 1) (i 2) := by
  refine Eq.trans ?_ (v1_at x0 x1 (i 0) (i 1) (i 2))
  blk_point []

/-- The first sliced part, a head at a time. -/
theorem v6_at (x0 : FVec Ideal S4x4096x1024 .f32) (x1 : FVec Ideal S1x1024x4096 .f32) (b : Fin 4) (h : Fin 4) (s : Fin 4096) (d : Fin 128) :
    val_main_v6 (F := Ideal) x0 x1 (ix4 b h s d) = accR x0 x1 b s ⟨2048 + h.val * 128 + d.val, by omega⟩ := by
  rw [val_main_v6_apply, val_main_v5_apply, val_main_v2_apply, v1_eq]
  have e0 : (((b.val * 4096 + s.val) * 4 + h.val) * 128 + d.val) / 2097152 = b.val := by omega
  have e1 : (((b.val * 4096 + s.val) * 4 + h.val) * 128 + d.val) / 512 % 4096 = s.val := by omega
  have e2 : 2048 + (((b.val * 4096 + s.val) * 4 + h.val) * 128 + d.val) % 512 = 2048 + h.val * 128 + d.val := by omega
  exact congr (congr (congrArg (accR x0 x1) (Fin.ext e0)) (Fin.ext e1)) (Fin.ext e2)

/-- The second sliced part, a head at a time. -/
theorem v39_at (x0 : FVec Ideal S4x4096x1024 .f32) (x1 : FVec Ideal S1x1024x4096 .f32) (b : Fin 4) (h : Fin 4) (s : Fin 4096) (d : Fin 128) :
    val_main_v39 (F := Ideal) x0 x1 (ix4 b h s d) = accR x0 x1 b s ⟨2560 + h.val * 128 + d.val, by omega⟩ := by
  rw [val_main_v39_apply, val_main_v38_apply, val_main_v3_apply, v1_eq]
  have e0 : (((b.val * 4096 + s.val) * 4 + h.val) * 128 + d.val) / 2097152 = b.val := by omega
  have e1 : (((b.val * 4096 + s.val) * 4 + h.val) * 128 + d.val) / 512 % 4096 = s.val := by omega
  have e2 : 2560 + (((b.val * 4096 + s.val) * 4 + h.val) * 128 + d.val) % 512 = 2560 + h.val * 128 + d.val := by omega
  exact congr (congr (congrArg (accR x0 x1) (Fin.ext e0)) (Fin.ext e1)) (Fin.ext e2)

/-- The first rotated slice. -/
theorem v37_at (x0 : FVec Ideal S4x4096x1024 .f32) (x1 : FVec Ideal S1x1024x4096 .f32) (b : Fin 4) (h : Fin 4) (s : Fin 4096) (d : Fin 128) :
    val_main_v37 (F := Ideal) x0 x1 (ix4 b h s d) = rotR x0 x1 b s ⟨2048 + h.val * 128 + d.val, by omega⟩ := by
  have e1 : val_main_v52 (F := Ideal) = val_main_v19 := rfl
  have e2 : val_main_v53 (F := Ideal) = val_main_v20 := rfl
  have lo : ∀ d' : Fin 64, val_main_v21 (F := Ideal) x0 x1 (ix4 b h s d') = accR x0 x1 b s ⟨2048 + h.val * 128 + d'.val, by omega⟩ := fun d' => by
    rw [val_main_v21_apply]
    exact v6_at x0 x1 b h s ⟨d'.val, by omega⟩
  have hi : ∀ d' : Fin 64, val_main_v22 (F := Ideal) x0 x1 (ix4 b h s d') = accR x0 x1 b s ⟨2048 + h.val * 128 + (64 + d'.val), by omega⟩ := fun d' => by
    rw [val_main_v22_apply]
    exact v6_at x0 x1 b h s ⟨64 + d'.val, by omega⟩
  unfold val_main_v37 rotR
  pointwise
  split <;> split <;> first | (exfalso; omega) | skip
  all_goals simp only [val_main_v29_apply, val_main_v36_apply, val_main_v25_apply, val_main_v28_apply, val_main_v32_apply, val_main_v35_apply, val_main_v24_apply, val_main_v27_apply, val_main_v31_apply, val_main_v34_apply, val_main_v23_apply, val_main_v26_apply, val_main_v30_apply, val_main_v33_apply, lo, hi, Ideal.addf_def, Ideal.mulf_def, Ideal.subf_def]
  all_goals unfold accR
  all_goals blk_point []

/-- The second rotated slice, before its scale. -/
theorem v70_at (x0 : FVec Ideal S4x4096x1024 .f32) (x1 : FVec Ideal S1x1024x4096 .f32) (b : Fin 4) (h : Fin 4) (s : Fin 4096) (d : Fin 128) :
    val_main_v70 (F := Ideal) x0 x1 (ix4 b h s d) = rotR x0 x1 b s ⟨2560 + h.val * 128 + d.val, by omega⟩ := by
  have e1 : val_main_v52 (F := Ideal) = val_main_v19 := rfl
  have e2 : val_main_v53 (F := Ideal) = val_main_v20 := rfl
  have lo : ∀ d' : Fin 64, val_main_v54 (F := Ideal) x0 x1 (ix4 b h s d') = accR x0 x1 b s ⟨2560 + h.val * 128 + d'.val, by omega⟩ := fun d' => by
    rw [val_main_v54_apply]
    exact v39_at x0 x1 b h s ⟨d'.val, by omega⟩
  have hi : ∀ d' : Fin 64, val_main_v55 (F := Ideal) x0 x1 (ix4 b h s d') = accR x0 x1 b s ⟨2560 + h.val * 128 + (64 + d'.val), by omega⟩ := fun d' => by
    rw [val_main_v55_apply]
    exact v39_at x0 x1 b h s ⟨64 + d'.val, by omega⟩
  unfold val_main_v70 rotR
  pointwise
  split <;> split <;> first | (exfalso; omega) | skip
  all_goals simp only [val_main_v62_apply, val_main_v69_apply, val_main_v58_apply, val_main_v61_apply, val_main_v65_apply, val_main_v68_apply, val_main_v57_apply, val_main_v60_apply, val_main_v64_apply, val_main_v67_apply, val_main_v56_apply, val_main_v59_apply, val_main_v63_apply, val_main_v66_apply, e1, e2, lo, hi, Ideal.addf_def, Ideal.mulf_def, Ideal.subf_def]
  all_goals unfold accR
  all_goals blk_point []

/-- The first rotated slice with its heads joined again. -/
theorem v74_at (x0 : FVec Ideal S4x4096x1024 .f32) (x1 : FVec Ideal S1x1024x4096 .f32) (b : Fin 4) (s : Fin 4096) (j : Fin 512) :
    val_main_v74 (F := Ideal) x0 x1 (ix3 b s j) = rotR x0 x1 b s ⟨2048 + j.val, by omega⟩ := by
  have e : idx_main_v73 (idx_main_v74 (ix3 b s j)) = ix4 b ⟨j.val / 128, by omega⟩ s ⟨j.val % 128, by omega⟩ := by
    funext a
    match a with
    | ⟨0, _⟩ => exact Fin.ext (by show ((b.val * 4096 + s.val) * 512 + j.val) / 2097152 = b.val; omega)
    | ⟨1, _⟩ => exact Fin.ext (by show ((b.val * 4096 + s.val) * 512 + j.val) / 128 % 4 = j.val / 128; omega)
    | ⟨2, _⟩ => exact Fin.ext (by show ((b.val * 4096 + s.val) * 512 + j.val) / 512 % 4096 = s.val; omega)
    | ⟨3, _⟩ => exact Fin.ext (by show ((b.val * 4096 + s.val) * 512 + j.val) % 128 = j.val % 128; omega)
  rw [val_main_v74_apply, val_main_v73_apply, e, v37_at]
  exact congrArg (rotR x0 x1 b s) (Fin.ext (by show 2048 + j.val / 128 * 128 + j.val % 128 = 2048 + j.val; omega))

/-- The second rotated slice, scaled, with its heads joined again. -/
theorem v76_at (x0 : FVec Ideal S4x4096x1024 .f32) (x1 : FVec Ideal S1x1024x4096 .f32) (b : Fin 4) (s : Fin 4096) (j : Fin 512) :
    val_main_v76 (F := Ideal) x0 x1 (ix3 b s j) = rotR x0 x1 b s ⟨2560 + j.val, by omega⟩ * Ideal.ofBits .f32 0x3DB504F3#32 := by
  have e : idx_main_v75 (idx_main_v76 (ix3 b s j)) = ix4 b ⟨j.val / 128, by omega⟩ s ⟨j.val % 128, by omega⟩ := by
    funext a
    match a with
    | ⟨0, _⟩ => exact Fin.ext (by show ((b.val * 4096 + s.val) * 512 + j.val) / 2097152 = b.val; omega)
    | ⟨1, _⟩ => exact Fin.ext (by show ((b.val * 4096 + s.val) * 512 + j.val) / 128 % 4 = j.val / 128; omega)
    | ⟨2, _⟩ => exact Fin.ext (by show ((b.val * 4096 + s.val) * 512 + j.val) / 512 % 4096 = s.val; omega)
    | ⟨3, _⟩ => exact Fin.ext (by show ((b.val * 4096 + s.val) * 512 + j.val) % 128 = j.val % 128; omega)
  rw [val_main_v76_apply, val_main_v75_apply, e, val_main_v72_apply, v70_at, val_main_v71_apply, val_main_cst_3_apply]
  refine congrArg (· * Ideal.ofBits .f32 0x3DB504F3#32) ?_
  exact congrArg (rotR x0 x1 b s) (Fin.ext (by show 2560 + j.val / 128 * 128 + j.val % 128 = 2560 + j.val; omega))

/-- The whole reference, entry by entry. -/
def outR (x0 : FVec Ideal S4x4096x1024 .f32) (x1 : FVec Ideal S1x1024x4096 .f32) (b : Fin 4) (s : Fin 4096) (n : Fin 4096) : EReal :=
  if n.val < 2048 then accR x0 x1 b s n
  else if n.val < 2560 then rotR x0 x1 b s n
  else if n.val < 3072 then rotR x0 x1 b s n * Ideal.ofBits .f32 0x3DB504F3#32
  else accR x0 x1 b s n

/-- The reference's result at an index. -/
theorem v81_at (x0 : FVec Ideal S4x4096x1024 .f32) (x1 : FVec Ideal S1x1024x4096 .f32) (r : Fin 16384) (n : Fin 4096) :
    val_main_v81 (F := Ideal) x0 x1 (ix2 r n) = outR x0 x1 ⟨r.val / 4096, by omega⟩ ⟨r.val % 4096, by omega⟩ n := by
  have h0 : (r.val * 4096 + n.val) / 16777216 = r.val / 4096 := by omega
  have h1 : (r.val * 4096 + n.val) / 4096 % 4096 = r.val % 4096 := by omega
  have h2 : (r.val * 4096 + n.val) % 4096 = n.val := by omega
  unfold outR
  simp only [val_main_v81_apply, val_main_v80_apply, Ideal.truncf_def]
  unfold val_main_v79
  pointwise
  simp only [h0, h1, h2]
  by_cases c1 : n.val < 2048
  · rw [dif_pos c1, if_pos c1, val_main_v77_apply, v1_eq]
    rfl
  · rw [dif_neg c1, if_neg c1]
    by_cases c2 : n.val < 2560
    · rw [dif_pos (by omega), if_pos c2, v74_at]
      exact congrArg (rotR x0 x1 _ _) (Fin.ext (by show 2048 + (n.val - 2048) = n.val; omega))
    · rw [dif_neg (by omega), if_neg c2]
      by_cases c3 : n.val < 3072
      · rw [dif_pos (by omega), if_pos c3, v76_at]
        refine congrArg (· * Ideal.ofBits .f32 0x3DB504F3#32) ?_
        exact congrArg (rotR x0 x1 _ _) (Fin.ext (by show 2560 + (n.val - 2048 - 512) = n.val; omega))
      · rw [dif_neg (by omega), if_neg c3, val_main_v78_apply, v1_eq]
        exact congrArg (accR x0 x1 _ _) (Fin.ext (by show 3072 + (n.val - 2048 - 512 - 512) = n.val; omega))

end Cert.Proof.Proj

end
-- ==== Proof.ProjValue.lean ====
module

public import proofs.«01_k».proof.Proof.ProjBlock
public import proofs.«01_k».proof.Proof.ProjFirst
public import proofs.«01_k».proof.Proof.ProjRef
public import Idealize.ShloMosaic.Lib.Claim
public import proofs.«01_k».proof.Defs

@[expose] public section

set_option maxRecDepth 16384

noncomputable section

namespace Cert.Proof.Proj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val % 8, 0]
    ∧ win0_3.index t = ![t.val % 8, 0] ∧ win0_4.index t = ![t.val, 0] :=
  (by decide +kernel : ∀ t : Fin grid0.N, _)

/-- The rotary angle at a position and a frequency. -/
def ang (s : Fin 4096) (d : ℕ) : EReal :=
  FloatOps.sitofp (F := Ideal) FTy.f32 (BitVec.ofNat 32 s.val) * Ideal.pow (Ideal.ofBits FTy.f32 1176256512#32)
        (Ideal.div (-FloatOps.sitofp (F := Ideal) FTy.f32 (BitVec.ofNat 32 d)) (Ideal.ofBits FTy.f32 1115684864#32))

open Cert.Reference3Ideal.Read in
/-- The reference's angle at an index. -/
theorem ang_at (s : Fin 4096) (d : Fin 64) : val_main_v18 (F := Ideal) (ix2 s d) = ang s d.val := by
  unfold ang
  pointwise [val_main_v18, val_main_v16, val_main_v17, val_main_v14, val_main_v15, val_main_v13, val_main_v12, val_main_v11, val_main_v10, val_main_v9, val_main_v8, val_main_v7, val_main_v4, val_main_cst, val_main_cst_0]

/-- The cosine table the kernel's host code makes, both halves the reference's. -/
theorem cos_at (c : Dev nD) (s : Fin 4096) (d : Fin 128) :
    V m c main_v17 (ix2 s d) = Cert.Reference3Ideal.Read.val_main_v19 (F := Ideal) (ix2 s ⟨d.val % 64, by omega⟩) := by
  rw [Cert.Reference3Ideal.Read.val_main_v19_apply, ang_at]
  entry_read
  pointwise
  split
  · have e : d.val % 64 = d.val := by omega
    simp only [e, ang]
    try rfl
  · have e : d.val % 64 = d.val - 64 := by omega
    simp only [e, ang]
    try rfl

/-- The signed sine table the kernel's host code makes: minus the reference's on the first half, the reference's on the second. -/
theorem sin_at (c : Dev nD) (s : Fin 4096) (d : Fin 128) :
    V m c main_v19 (ix2 s d) = if h : d.val < 64 then -Cert.Reference3Ideal.Read.val_main_v20 (F := Ideal) (ix2 s ⟨d.val, h⟩)
      else Cert.Reference3Ideal.Read.val_main_v20 (F := Ideal) (ix2 s ⟨d.val - 64, by omega⟩) := by
  simp only [Cert.Reference3Ideal.Read.val_main_v20_apply, ang_at]
  entry_read
  pointwise
  try rfl

/-- What every point leaves in the output block. -/
theorem out_at (c : Dev nD) (t : Fin cfg0.N) (y) :
    (outsAt0 m c t.val t.isLt).1 y = blk (iblk m c 0 t) (fun i => iblk m c 1 t i) (iblk m c 2 t) (iblk m c 3 t) y := by
  by_cases h : t.val % 32 = 0
  · exact out_A m c t h y
  · have e := out_B m c t h y
    rw [scratch m c ⟨t.val - 1, Nat.lt_of_le_of_lt (Nat.sub_le _ _) t.isLt⟩] at e
    refine e.trans ?_
    unfold blk rot acc
    blk_point [iblk, idx]

/-- The kernel's block is the reference's, entry by entry. -/
theorem blk_eq (c : Dev nD) (t : Fin cfg0.N) (y : S512x4096.Idx) :
    blk (iblk m c 0 t) (fun i => iblk m c 1 t i) (iblk m c 2 t) (iblk m c 3 t) y
      = outR (m ((c : Thread nD τ).loc main_arg0)) (m ((c : Thread nD τ).loc main_arg1)) ⟨t.val / 8, by have := t.isLt; change _ < 32 at this; omega⟩
          ⟨t.val % 8 * 512 + (y 0).val, by have : (y 0).val < 512 := (y 0).isLt; omega⟩ (y 1) := by
  have hN : t.val < 32 := t.isLt
  have ea : ∀ (r : Fin 512) (n : Fin 4096), acc (iblk m c 0 t) (fun i => iblk m c 1 t i) r n
      = accR (m ((c : Thread nD τ).loc main_arg0)) (m ((c : Thread nD τ).loc main_arg1)) ⟨t.val / 8, by omega⟩ ⟨t.val % 8 * 512 + r.val, by omega⟩ n := fun r n => by
    unfold acc accR
    blk_point [iblk, V, idx t]
  have ec : ∀ (r : Fin 512) (d : Fin 128), (iblk m c 2 t : FVec Ideal S512x128 .f32) (ix2 r d)
      = Cert.Reference3Ideal.Read.val_main_v19 (F := Ideal) (ix2 ⟨t.val % 8 * 512 + r.val, by omega⟩ ⟨d.val % 64, by omega⟩) := fun r d => by
    refine Eq.trans ?_ (cos_at m c ⟨t.val % 8 * 512 + r.val, by omega⟩ d)
    blk_ext [iblk, idx t]
  have es : ∀ (r : Fin 512) (d : Fin 128), (iblk m c 3 t : FVec Ideal S512x128 .f32) (ix2 r d)
      = if h : d.val < 64 then -Cert.Reference3Ideal.Read.val_main_v20 (F := Ideal) (ix2 ⟨t.val % 8 * 512 + r.val, by omega⟩ ⟨d.val, h⟩)
      else Cert.Reference3Ideal.Read.val_main_v20 (F := Ideal) (ix2 ⟨t.val % 8 * 512 + r.val, by omega⟩ ⟨d.val - 64, by omega⟩) := fun r d => by
    refine Eq.trans ?_ (sin_at m c ⟨t.val % 8 * 512 + r.val, by omega⟩ d)
    blk_ext [iblk, idx t]
  have er : ∀ (r : Fin 512) (n : Fin 4096), rot (iblk m c 0 t) (fun i => iblk m c 1 t i) (iblk m c 2 t) (iblk m c 3 t) r n
      = rotR (m ((c : Thread nD τ).loc main_arg0)) (m ((c : Thread nD τ).loc main_arg1)) ⟨t.val / 8, by omega⟩ ⟨t.val % 8 * 512 + r.val, by omega⟩ n := fun r n => by
    unfold rot rotR
    rw [ea, ea, ec, es]
    by_cases h : n.val % 128 < 64
    · rw [dif_pos h, dif_pos h, mul_neg, sub_eq_add_neg]
      have e : n.val % 128 % 64 = n.val % 128 := by omega
      simp only [e]
    · rw [dif_neg h, dif_neg h, add_comm]
      have e : n.val % 128 % 64 = n.val % 128 - 64 := by omega
      simp only [e]
  have h1 := ea (y 0) (y 1)
  have h2 := er (y 0) (y 1)
  unfold blk outR
  (repeat' split) <;> first | exact h1 | exact h2 | exact congrArg (· * Ideal.ofBits .f32 0x3DB504F3#32) h2

/-- The result array after the run is the reference's result. -/
theorem final (c : Dev nD) : (dats m 0 c).arrAt 4 cfg0.N
    = (Cert.Reference3Ideal.Read.val_main_v81 (F := Ideal) (m ((c : Thread nD τ).loc main_arg0)) (m ((c : Thread nD τ).loc main_arg1))) := by
  refine (dats m 0 c).arrAt_eq_of_covers 4 _ (by decide +kernel) fun t hf y => ?_
  have hN : t.val < 32 := t.isLt
  blk_simp
  rw [after0_4, out_at m c t y, blk_eq m c t y]
  have b0 : (y 0).val < 512 := (y 0).isLt
  have e : (ix2 ⟨t.val * 512 + (y 0).val, by omega⟩ ⟨(y 1).val, (y 1).isLt⟩ : Cert.Reference3Ideal.S16384x4096.Idx) = ((cfg0.win 4).blk t).view.emb y := by
    blk_ext [idx t]
  refine Eq.trans ?_ (congrArg (Cert.Reference3Ideal.Read.val_main_v81 (F := Ideal) (m ((c : Thread nD τ).loc main_arg0)) (m ((c : Thread nD τ).loc main_arg1))) e)
  refine Eq.trans ?_ (v81_at _ _ _ _).symm
  have e0 : t.val / 8 = (t.val * 512 + (y 0).val) / 4096 := by omega
  have e1 : t.val % 8 * 512 + (y 0).val = (t.val * 512 + (y 0).val) % 4096 := by omega
  exact congr (congr (congrArg (outR _ _) (Fin.ext e0)) (Fin.ext e1)) rfl

/-- The projection and the reference's leave equal results. -/
theorem algebraic : Cert.algebraic_Kernel3Ideal_Reference3Ideal := fun m ρ m' ρ' _ hag =>
  ⟨fun c => Cert.Reference3Ideal.Read.val_main_v81 (F := Ideal) (m ((c : Thread nD τ).loc main_arg0)) (m ((c : Thread nD τ).loc main_arg1)),
    (θ_run _ _ _).mono (fun _ h c => ⟨(h c).1.trans (final m c), (h c).2⟩) (Cert.Kernel3Ideal.Value.run_blocks m ρ),
    (θ_run _ _ _).mono (fun _ h c => ⟨((h c).1.trans (Cert.Reference3Ideal.Read.val_main_v81_eq ..)).trans (by rw [(hag c).1, (hag c).2]), (h c).2⟩)
      (Cert.Reference3Ideal.Value.run (F := Ideal) m' ρ')⟩

end Cert.Proof.Proj

end
-- ==== Proof.OutBlock.lean ====
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.Out

open Idealize.ShloMosaic Idealize.ShloMosaic.TcCoe Idealize.SL.Sem
open Idealize.ShloMosaic.Pipeline (Dat)
open Cert.Kernel2Ideal Cert.Kernel2Ideal.Gen

/-- The residual entry before the gate: the scaled token plus the two halves of the mixing product. -/
def pre (X : FVec Ideal S1024x1024 .f32) (A R : FVec Ideal S1024x512 .bf16) (Wo : FVec Ideal S1024x1024 .bf16)
    (r : Fin 1024) (n : Fin 1024) : EReal :=
  Ideal.ofBits .f32 0x3F9837F0#32 * X (ix2 r n)
    + ((∑ k : Fin 512, A (ix2 r k) * Wo (ix2 ⟨k.val, by omega⟩ n)) + ∑ k : Fin 512, R (ix2 r k) * Wo (ix2 ⟨512 + k.val, by omega⟩ n))

/-- The entry with the gated embedding added. -/
def gated (X : FVec Ideal S1024x1024 .f32) (A R : FVec Ideal S1024x512 .bf16) (P : FVec Ideal S1024x256 .f32)
    (Wo Wg : FVec Ideal S1024x1024 .bf16) (Wp : FVec Ideal S256x1024 .bf16) (r : Fin 1024) (n : Fin 1024) : EReal :=
  pre X A R Wo r n + Ideal.logistic (∑ k : Fin 1024, pre X A R Wo r k * Wg (ix2 k n)) * ∑ k : Fin 256, P (ix2 r k) * Wp (ix2 k n)

/-- The mean of a row of 1024 entries. -/
def mean (u : Fin 1024 → EReal) : EReal := Ideal.div (∑ k : Fin 1024, u k) (Ideal.ofBits .f32 0x44800000#32)

/-- One entry of a row, normalised, with gain and bias. -/
def norm (u : Fin 1024 → EReal) (g b : EReal) (n : Fin 1024) : EReal :=
  (u n - mean u) * Ideal.rsqrt (mean (fun k => (u k - mean u) * (u k - mean u)) + Ideal.ofBits .f32 0x3727C5AC#32) * g + b

/-- The block the output stage leaves. -/
def blk (X : FVec Ideal S1024x1024 .f32) (A R : FVec Ideal S1024x512 .bf16) (P : FVec Ideal S1024x256 .f32)
    (Wo Wg : FVec Ideal S1024x1024 .bf16) (Wp : FVec Ideal S256x1024 .bf16) (g b : FVec Ideal S1x1024 .f32) (y : S1024x1024.Idx) : EReal :=
  norm (gated X A R P Wo Wg Wp (y 0)) (g (ix2 0 (y 1))) (b (ix2 0 (y 1))) (y 1)

variable (m : (ℓ : Loc nD τ sig) → Buf (Elt Ideal) ℓ)

/-- After every point the carried weights are the weight blocks, rounded to the narrow format (the identity on ideal values). -/
theorem scratch (c : Dev nD) (t : Fin cfg0.N) :
    (outsAt0 m c t.val t.isLt).2
      = ((fun i => iblk m c 4 ⟨16 * (t.val / 16), Pipeline.run_start_lt t⟩ i : FVec Ideal S1024x1024 .bf16),
         (fun i => iblk m c 5 ⟨16 * (t.val / 16), Pipeline.run_start_lt t⟩ i : FVec Ideal S1024x1024 .bf16),
         (fun i => iblk m c 6 ⟨16 * (t.val / 16), Pipeline.run_start_lt t⟩ i : FVec Ideal S256x1024 .bf16)) := by
  refine Pipeline.eq_of_write_hold (fun n h => (outsAt0 m c n h).2) 16
    (fun t => ((fun i => iblk m c 4 t i : FVec Ideal S1024x1024 .bf16), (fun i => iblk m c 5 t i : FVec Ideal S1024x1024 .bf16),
      (fun i => iblk m c 6 t i : FVec Ideal S256x1024 .bf16))) (fun t h => ?_) (fun t h => ?_) t
  · show (outsAt0 m c t.val t.isLt).2 = _
    rw [outsAt0_A m c t h]
    frame_out
    refine Prod.ext (funext fun y => ?_) (Prod.ext (funext fun y => ?_) (funext fun y => ?_))
    all_goals dsimp only
    all_goals (open_payloads; pointwise)
    all_goals try blk_ext
  · show (outsAt0 m c t.val t.isLt).2 = _
    rw [outsAt0_B m c t h]
    rfl

/-- What a later point leaves in the output block. -/
theorem out_B (c : Dev nD) (t : Fin cfg0.N) (h : ¬ t.val % 16 = 0) (y) :
    (outsAt0 m c t.val t.isLt).1 y
      = blk (iblk m c 0 t) (iblk m c 1 t) (iblk m c 2 t) (iblk m c 3 t)
          (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2
          (iblk m c 7 t) (iblk m c 8 t) y := by
  rw [outsAt0_B m c t h]
  frame_out
  simp only [read_unread_whole]
  generalize (outsAt0 m c (t.val - 1) (Nat.lt_of_le_of_lt (Nat.sub_le _ _) t.isLt)).2.1 = Wo
  generalize (outsAt0 m c (t.val - 1) (Nat.lt_of_le_of_lt (Nat.sub_le _ _) t.isLt)).2.2.1 = Wg
  generalize (outsAt0 m c (t.val - 1) (Nat.lt_of_le_of_lt (Nat.sub_le _ _) t.isLt)).2.2.2 = Wp
  clear h
  unfold blk norm mean gated pre
  canon_tiles x h
  all_goals (open_payloads; pointwise)
  all_goals (try blk_point [])

end Cert.Proof.Out

end
-- ==== Proof.OutFirst.lean ====
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.OutBlock

@[expose] public section

set_option maxRecDepth 16384

noncomputable section

namespace Cert.Proof.Out

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- What the first point leaves in the output block: the same block, over the weights it has just rounded into the scratches. -/
theorem out_A (c : Dev nD) (t : Fin cfg0.N) (h : t.val % 16 = 0) (y) :
    (outsAt0 m c t.val t.isLt).1 y
      = blk (iblk m c 0 t) (iblk m c 1 t) (iblk m c 2 t) (iblk m c 3 t)
          (fun i => iblk m c 4 t i) (fun i => iblk m c 5 t i) (fun i => iblk m c 6 t i) (iblk m c 7 t) (iblk m c 8 t) y := by
  rw [outsAt0_A m c t h]
  frame_open
  simp (disch := decide) only [↓ View.readCov_skip, ↓ View.readCov_cons_toLoadRect, ↓ View.readCov_fill]
  frame_out
  clear h
  unfold blk norm mean gated pre
  canon_tiles x h
  all_goals (open_payloads; pointwise)
  all_goals (try blk_point [])

end Cert.Proof.Out

end
-- ==== Proof.OutRef.lean ====
module

public import proofs.«01_k».proof.Proof.Gen.Reference2Ideal.Read
public import proofs.«01_k».proof.Proof.OutBlock
public import Idealize.ShloMosaic.Lib.Pipeline.ValueKit
public import Idealize.ShloMosaic.Lib.Pointwise

@[expose] public section

set_option maxRecDepth 16384

noncomputable section

namespace Cert.Proof.Out

open Idealize.ShloMosaic Idealize.ShloMosaic.TcCoe Idealize.SL.Sem
open Cert.Reference2Ideal Cert.Reference2Ideal.Gen Cert.Reference2Ideal.Read

variable (x0 : FVec Ideal S4x4096x1024 .f32) (x1 x2 : FVec Ideal S4x4096x512 .bf16) (x3 : FVec Ideal S1x4x4096x256 .f32)
  (x4 x5 : FVec Ideal S1x1024x1024 .f32) (x6 : FVec Ideal S1x256x1024 .f32) (x7 x8 : FVec Ideal S1x1024 .f32)

/-- The residual entry before the gate. -/
def preR (b : Fin 4) (s : Fin 4096) (n : Fin 1024) : EReal :=
  Ideal.ofBits .f32 0x3F9837F0#32 * x0 (ix3 b s n)
    + ((∑ k : Fin 512, x1 (ix3 b s k) * x4 (ix3 0 ⟨k.val, by omega⟩ n)) + ∑ k : Fin 512, x2 (ix3 b s k) * x4 (ix3 0 ⟨512 + k.val, by omega⟩ n))

/-- The entry with the gated embedding added. -/
def gatedR (b : Fin 4) (s : Fin 4096) (n : Fin 1024) : EReal :=
  preR x0 x1 x2 x4 b s n + Ideal.logistic (∑ k : Fin 1024, preR x0 x1 x2 x4 b s k * x5 (ix3 0 k n)) * ∑ k : Fin 256, x3 (ix4 0 b s k) * x6 (ix3 0 k n)

/-- The reference before its gate, at an index. -/
theorem v7_at (b : Fin 4) (s : Fin 4096) (n : Fin 1024) :
    val_main_v7 (F := Ideal) x0 x1 x2 x4 (ix3 b s n) = preR x0 x1 x2 x4 b s n := by
  unfold preR
  pointwise [val_main_v7, val_main_v6, val_main_v5, val_main_cst, val_main_v4, val_main_v3, val_main_v2, val_main_v1, val_main_v0]
  try trace_state

/-- The reference before its normalisation, at an index. -/
theorem v20_at (b : Fin 4) (s : Fin 4096) (n : Fin 1024) :
    val_main_v20 (F := Ideal) x0 x1 x2 x3 x4 x5 x6 (ix3 b s n) = gatedR x0 x1 x2 x3 x4 x5 x6 b s n := by
  unfold gatedR
  simp only [← v7_at]
  unfold Ideal.logistic
  pointwise [val_main_v20, val_main_v19, val_main_v18, val_main_v17, val_main_cst_1, val_main_v16, val_main_v15, val_main_cst_0, val_main_v14, val_main_v13, val_main_v12, val_main_v11, val_main_v10, val_main_v9, val_main_v8]
  try trace_state

/-- The reference's result at an index. -/
theorem v47_at (r : Fin 16384) (n : Fin 1024) :
    val_main_v47 (F := Ideal) x0 x1 x2 x3 x4 x5 x6 x7 x8 (ix2 r n)
      = norm (gatedR x0 x1 x2 x3 x4 x5 x6 ⟨r.val / 4096, by omega⟩ ⟨r.val % 4096, by omega⟩) (x7 (ix2 0 n)) (x8 (ix2 0 n)) n := by
  unfold norm mean
  have e : gatedR x0 x1 x2 x3 x4 x5 x6 ⟨r.val / 4096, by omega⟩ ⟨r.val % 4096, by omega⟩
      = fun n => val_main_v20 (F := Ideal) x0 x1 x2 x3 x4 x5 x6 (ix3 ⟨r.val / 4096, by omega⟩ ⟨r.val % 4096, by omega⟩ n) :=
    funext fun n => (v20_at x0 x1 x2 x3 x4 x5 x6 _ _ n).symm
  rw [e]
  generalize hu : val_main_v20 (F := Ideal) x0 x1 x2 x3 x4 x5 x6 = u
  pointwise [val_main_v47, val_main_v46, val_main_v45, val_main_v44, val_main_v43, val_main_v42, val_main_v41, val_main_v40, val_main_v39, val_main_v38, val_main_v37, val_main_v36, val_main_cst_6, val_main_v35, val_main_v34, val_main_v33, val_main_v32, val_main_cst_5, val_main_v31, val_main_v30, val_main_cst_4, val_main_v29, val_main_v28, val_main_v27, val_main_v26, val_main_v25, val_main_cst_3, val_main_v24, val_main_v23, val_main_cst_2, val_main_v22, val_main_v21, hu]
  try trace_state

end Cert.Proof.Out

end
-- ==== Proof.OutValue.lean ====
module

public import proofs.«01_k».proof.Proof.OutBlock
public import proofs.«01_k».proof.Proof.OutFirst
public import proofs.«01_k».proof.Proof.OutRef
public import Idealize.ShloMosaic.Lib.Claim
public import proofs.«01_k».proof.Defs

@[expose] public section

set_option maxRecDepth 16384

noncomputable section

namespace Cert.Proof.Out

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- A weight block is the same at every point: its window is the whole array. -/
theorem w4 (c : Dev nD) (t t' : Fin cfg0.N) : (iblk m c 4 t : FVec Ideal S1024x1024 .f32) = iblk m c 4 t' := by
  funext i
  blk_ext [iblk, idx t, idx t']

/-- The gate's weight block is the same at every point. -/
theorem w5 (c : Dev nD) (t t' : Fin cfg0.N) : (iblk m c 5 t : FVec Ideal S1024x1024 .f32) = iblk m c 5 t' := by
  funext i
  blk_ext [iblk, idx t, idx t']

/-- The embedding's weight block is the same at every point. -/
theorem w6 (c : Dev nD) (t t' : Fin cfg0.N) : (iblk m c 6 t : FVec Ideal S256x1024 .f32) = iblk m c 6 t' := by
  funext i
  blk_ext [iblk, idx t, idx t']

/-- What every point leaves in the output block. -/
theorem out_at (c : Dev nD) (t : Fin cfg0.N) (y) :
    (outsAt0 m c t.val t.isLt).1 y
      = blk (iblk m c 0 t) (iblk m c 1 t) (iblk m c 2 t) (iblk m c 3 t)
          (fun i => iblk m c 4 t i) (fun i => iblk m c 5 t i) (fun i => iblk m c 6 t i) (iblk m c 7 t) (iblk m c 8 t) y := by
  by_cases h : t.val % 16 = 0
  · exact out_A m c t h y
  · have e := out_B m c t h y
    rw [scratch m c ⟨t.val - 1, Nat.lt_of_le_of_lt (Nat.sub_le _ _) t.isLt⟩] at e
    refine e.trans ?_
    dsimp only
    rw [w4 m c _ t, w5 m c _ t, w6 m c _ t]

/-- The kernel's block is the reference's, entry by entry. -/
theorem blk_eq (c : Dev nD) (t : Fin cfg0.N) (y : S1024x1024.Idx) :
    blk (iblk m c 0 t) (iblk m c 1 t) (iblk m c 2 t) (iblk m c 3 t)
          (fun i => iblk m c 4 t i) (fun i => iblk m c 5 t i) (fun i => iblk m c 6 t i) (iblk m c 7 t) (iblk m c 8 t) y
      = norm (gatedR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨t.val / 4, by have := t.isLt; change _ < 16 at this; omega⟩
          ⟨t.val % 4 * 1024 + (y 0).val, by have : (y 0).val < 1024 := (y 0).isLt; omega⟩)
          ((m ((c : Thread nD τ).loc main_arg7) : FVec Ideal S1x1024 .f32) (ix2 0 (y 1)))
          ((m ((c : Thread nD τ).loc main_arg8) : FVec Ideal S1x1024 .f32) (ix2 0 (y 1))) (y 1) := by
  have hN : t.val < 16 := t.isLt
  have ep : ∀ (r : Fin 1024) (n : Fin 1024), pre (iblk m c 0 t) (iblk m c 1 t) (iblk m c 2 t) (fun i => iblk m c 4 t i) r n
      = preR (m ((c : Thread nD τ).loc main_arg0)) (m ((c : Thread nD τ).loc main_arg1)) (m ((c : Thread nD τ).loc main_arg2))
          (m ((c : Thread nD τ).loc main_arg4)) ⟨t.val / 4, by omega⟩ ⟨t.val % 4 * 1024 + r.val, by omega⟩ n := fun r n => by
    unfold pre preR
    blk_point [iblk, V, idx t]
  have eg : ∀ (r : Fin 1024) (n : Fin 1024), gated (iblk m c 0 t) (iblk m c 1 t) (iblk m c 2 t) (iblk m c 3 t)
        (fun i => iblk m c 4 t i) (fun i => iblk m c 5 t i) (fun i => iblk m c 6 t i) r n
      = gatedR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨t.val / 4, by omega⟩ ⟨t.val % 4 * 1024 + r.val, by omega⟩ n := fun r n => by
    unfold gated gatedR
    simp only [ep]
    blk_point [iblk, V, idx t]
  have e7 : ∀ n : Fin 1024, (iblk m c 7 t : FVec Ideal S1x1024 .f32) (ix2 0 n) = (m ((c : Thread nD τ).loc main_arg7) : FVec Ideal S1x1024 .f32) (ix2 0 n) := fun n => by
    blk_point [iblk, V, idx t]
  have e8 : ∀ n : Fin 1024, (iblk m c 8 t : FVec Ideal S1x1024 .f32) (ix2 0 n) = (m ((c : Thread nD τ).loc main_arg8) : FVec Ideal S1x1024 .f32) (ix2 0 n) := fun n => by
    blk_point [iblk, V, idx t]
  unfold blk
  exact congr (congr (congr (congrArg norm (funext fun n => eg (y 0) n)) (e7 (y 1))) (e8 (y 1))) rfl

/-- The reference's result over the kernel's arguments. -/
abbrev res (c : Dev nD) : FVec Ideal Cert.Reference2Ideal.S16384x1024 .f32 :=
  Cert.Reference2Ideal.Read.val_main_v47 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))

/-- The result array after the run is the reference's result. -/
theorem final (c : Dev nD) : (dats m 0 c).arrAt 9 cfg0.N = res m c := by
  refine (dats m 0 c).arrAt_eq_of_covers 9 _ (by decide +kernel) fun t hf y => ?_
  have hN : t.val < 16 := t.isLt
  blk_simp
  rw [after0_9, out_at m c t y, blk_eq m c t y]
  have b0 : (y 0).val < 1024 := (y 0).isLt
  have e : (ix2 ⟨t.val * 1024 + (y 0).val, by omega⟩ ⟨(y 1).val, (y 1).isLt⟩ : Cert.Reference2Ideal.S16384x1024.Idx) = ((cfg0.win 9).blk t).view.emb y := by
    blk_ext [idx t]
  refine Eq.trans ?_ (congrArg (res m c) e)
  refine Eq.trans ?_ (v47_at _ _ _ _ _ _ _ _ _ _ _).symm
  have e0 : t.val / 4 = (t.val * 1024 + (y 0).val) / 4096 := by omega
  have e1 : t.val % 4 * 1024 + (y 0).val = (t.val * 1024 + (y 0).val) % 4096 := by omega
  exact congr (congr (congr (congrArg norm (congr (congrArg (gatedR _ _ _ _ _ _ _) (Fin.ext e0)) (Fin.ext e1))) rfl) rfl) rfl

/-- The output stage and the reference's leave equal results. -/
theorem algebraic : Cert.algebraic_Kernel2Ideal_Reference2Ideal := fun m ρ m' ρ' _ hag =>
  ⟨fun c => res m c,
    (θ_run _ _ _).mono (fun _ h c => ⟨(h c).1.trans (final m c), (h c).2⟩) (Cert.Kernel2Ideal.Value.run_blocks m ρ),
    (θ_run _ _ _).mono (fun _ h c => ⟨((h c).1.trans (Cert.Reference2Ideal.Read.val_main_v47_eq ..)).trans
        (by obtain ⟨h0, h1, h2, h3, h4, h5, h6, h7, h8⟩ := hag c; rw [h0, h1, h2, h3, h4, h5, h6, h7, h8]), (h c).2⟩)
      (Cert.Reference2Ideal.Value.run (F := Ideal) m' ρ')⟩

end Cert.Proof.Out

end
-- ==== Proof.RetTab.lean ====
module

public import Idealize.ShloMosaic.Lib.Pointwise
public import Idealize.ShloMosaic.PureOps.Ideal

@[expose] public section

set_option maxRecDepth 16384

noncomputable section

namespace Cert.Proof.Ret

open Idealize.ShloMosaic Idealize.ShloMosaic.TcCoe Idealize.SL.Sem

/-- The literal `ln 2`, a rational. -/
def ln2 : ℝ := 11629080 / 16777216

/-- The logarithm of a head's decay. -/
def L (h : Fin 4) : ℝ := Real.log (1 + -Real.exp (ln2 * (-5 - (h.val : ℝ))))

/-- The same logarithm as both programs compute it, over the extended reals. -/
def lgE (h : Fin 4) : EReal :=
  Ideal.log1p (-Ideal.exp (Ideal.ofBits .f32 0x3F317218#32 * (Ideal.ofBits .f32 0xC0A00000#32 - (((BitVec.ofNat 32 h.val).toInt : ℝ) : EReal))))

/-- A small number's word, read signed, is the number. -/
theorem word (n : ℕ) (h : n < 4096) : (((BitVec.ofNat 32 n).toInt : ℝ) : EReal) = ((n : ℝ) : EReal) := by
  have e : (BitVec.ofNat 32 n).toInt = (n : ℤ) := by
    rw [BitVec.toInt_eq_toNat_of_lt] <;> simp only [BitVec.toNat_ofNat] <;> omega
  rw [e, Int.cast_natCast]

theorem lit_ln2 : Ideal.ofBits .f32 0x3F317218#32 = ((ln2 : ℝ) : EReal) := by
  unfold ln2
  simp [Ideal.ofBits, Ideal.ieee, -EReal.coe_mul]; norm_num
theorem lit_m5 : Ideal.ofBits .f32 0xC0A00000#32 = (((-5 : ℝ)) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num

/-- The logarithm both programs compute is the real one: the decay lies strictly between 0 and 1. -/
theorem lgE_eq (h : Fin 4) : lgE h = ((L h : ℝ) : EReal) := by
  have hpos : 0 < 1 + -Real.exp (ln2 * (-5 - (h.val : ℝ))) := by
    have : Real.exp (ln2 * (-5 - (h.val : ℝ))) < 1 := by
      rw [Real.exp_lt_one_iff]
      have h0 : (0 : ℝ) ≤ (h.val : ℝ) := Nat.cast_nonneg _
      have h1 : (0 : ℝ) < ln2 := by unfold ln2; norm_num
      nlinarith
    linarith
  unfold lgE L
  rw [word h.val (by omega), lit_ln2, lit_m5, ← EReal.coe_sub, ← EReal.coe_mul, Ideal.exp_coe, ← EReal.coe_neg]
  show Ideal.log (1 + _) = _
  rw [← EReal.coe_one, ← EReal.coe_add, Ideal.log_coe, if_neg (not_le.mpr hpos)]

/-- The decay from position `j` to position `i` of a chunk, as the programs compute it: zero ahead of the query. -/
theorem decay_eq (h : Fin 4) (i j : ℕ) (hi : i < 4096) (hj : j < 4096) :
    (if (0 : EReal) ≤ (((BitVec.ofNat 32 i).toInt : ℝ) : EReal) - (((BitVec.ofNat 32 j).toInt : ℝ) : EReal)
      then Ideal.exp (max ((((BitVec.ofNat 32 i).toInt : ℝ) : EReal) - (((BitVec.ofNat 32 j).toInt : ℝ) : EReal)) 0 * lgE h) else 0)
      = (((if j ≤ i then Real.exp (((i : ℝ) - j) * L h) else 0 : ℝ)) : EReal) := by
  rw [word i hi, word j hj, lgE_eq, ← EReal.coe_sub, ← EReal.coe_zero, ← EReal.coe_strictMono.monotone.map_max, ← EReal.coe_mul, Ideal.exp_coe]
  by_cases hc : j ≤ i
  · have h0 : (0 : ℝ) ≤ (i : ℝ) - j := by have : (j : ℝ) ≤ i := by exact_mod_cast hc
                                          linarith
    rw [if_pos (EReal.coe_le_coe_iff.mpr h0), if_pos hc, max_eq_left h0]
  · have h0 : ¬ (0 : ℝ) ≤ (i : ℝ) - j := by have : (i : ℝ) < j := by exact_mod_cast (not_le.mp hc)
                                            linarith
    rw [if_neg (fun hh => h0 (EReal.coe_le_coe_iff.mp hh)), if_neg hc]

/-- The decay from a chunk's start to its position `i`. -/
theorem xi_eq (h : Fin 4) (i : ℕ) (hi : i < 4096) :
    Ideal.exp (((((BitVec.ofNat 32 i).toInt : ℝ) : EReal) + 1) * lgE h) = ((Real.exp (((i : ℝ) + 1) * L h) : ℝ) : EReal) := by
  rw [word i hi, lgE_eq, ← EReal.coe_one, ← EReal.coe_add, ← EReal.coe_mul, Ideal.exp_coe]

/-- The decay from position `i` to the last position, `a`, of a chunk. -/
theorem zeta_eq (h : Fin 4) (i : ℕ) (hi : i < 4096) (a : ℝ) :
    Ideal.exp (((a : EReal) - (((BitVec.ofNat 32 i).toInt : ℝ) : EReal)) * lgE h) = ((Real.exp ((a - i) * L h) : ℝ) : EReal) := by
  rw [word i hi, lgE_eq, ← EReal.coe_sub, ← EReal.coe_mul, Ideal.exp_coe]

/-- The decay over a whole chunk of `a` positions. -/
theorem whole_eq (h : Fin 4) (a : ℝ) : Ideal.exp ((a : EReal) * lgE h) = ((Real.exp (a * L h) : ℝ) : EReal) := by
  rw [lgE_eq, ← EReal.coe_mul, Ideal.exp_coe]

/-- The mean of a head's 128 entries. -/
def mean (u : Fin 128 → EReal) : EReal := Ideal.div (∑ k : Fin 128, u k) (Ideal.ofBits .f32 0x43000000#32)

/-- A head's entry, normalised over the head, with its gain, times the gate's `g · sigmoid g`. -/
def gn (u : Fin 128 → EReal) (gain g : EReal) (e : Fin 128) : EReal :=
  (u e - mean u) * Ideal.rsqrt (mean (fun k => (u k - mean u) * (u k - mean u)) + Ideal.ofBits .f32 0x358637BD#32) * gain
    * (g * Ideal.logistic g)

end Cert.Proof.Ret

end
-- ==== Proof.RetForm.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.RetTab

@[expose] public section

set_option maxRecDepth 16384

noncomputable section

namespace Cert.Proof.Ret

open Idealize.ShloMosaic Idealize.ShloMosaic.TcCoe Idealize.SL.Sem
open Idealize.ShloMosaic.Pipeline (Dat)
open Cert.KernelIdeal Cert.KernelIdeal.Gen

/-- One entry of a head's output over a chunk of 256 positions: the decayed scores inside the chunk against the values, plus the
    query against the state the chunk starts from. -/
def out (Q K Vv : FVec Ideal S4x256x512 .bf16) (D : FVec Ideal S4x256x256 .f32) (xi : FVec Ideal S4x256x128 .f32)
    (st : FVec Ideal S4x4x128x128 .f32) (b h : Fin 4) (i : Fin 256) (e : Fin 128) : EReal :=
  (∑ j : Fin 256, (∑ d : Fin 128, Q (ix3 b i ⟨h.val * 128 + d.val, by omega⟩) * K (ix3 b j ⟨h.val * 128 + d.val, by omega⟩))
      * D (ix3 h i j) * Vv (ix3 b j ⟨h.val * 128 + e.val, by omega⟩))
    + (∑ d : Fin 128, Q (ix3 b i ⟨h.val * 128 + d.val, by omega⟩) * st (ix4 b h d e)) * xi (ix3 h i e)

/-- One entry of the state a chunk of 256 positions leaves. -/
def nst (K Vv : FVec Ideal S4x256x512 .bf16) (zeta : FVec Ideal S4x256x128 .f32) (gc : FVec Ideal S4x1x128 .f32)
    (st : FVec Ideal S4x4x128x128 .f32) (b h : Fin 4) (d e : Fin 128) : EReal :=
  st (ix4 b h d e) * gc (ix3 h 0 e)
    + ∑ j : Fin 256, K (ix3 b j ⟨h.val * 128 + d.val, by omega⟩) * (Vv (ix3 b j ⟨h.val * 128 + e.val, by omega⟩) * zeta (ix3 h j e))

end Cert.Proof.Ret

end
-- ==== Proof.RetBlock.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.RetForm

@[expose] public section

set_option maxRecDepth 16384

noncomputable section

namespace Cert.Proof.Ret

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- What a later point leaves in the carried state. -/
theorem st_B (c : Dev nD) (t : Fin cfg0.N) (h : ¬ t.val % 16 = 0) (y) :
    (outsAt0 m c t.val t.isLt).2 y
      = nst (iblk m c 1 t) (iblk m c 2 t) (iblk m c 6 t) (iblk m c 7 t)
          (outsAt0 m c (t.val - 1) (Nat.lt_of_le_of_lt (Nat.sub_le _ _) t.isLt)).2 (y 0) (y 1) (y 2) (y 3) := by
  rw [outsAt0_B m c t h]
  frame_out
  simp only [read_unread_whole]
  generalize (outsAt0 m c (t.val - 1) (Nat.lt_of_le_of_lt (Nat.sub_le _ _) t.isLt)).2 = st
  clear h
  unfold nst
  canon_tiles x h
  all_goals (open_payloads; pointwise)
  all_goals (try blk_point [])

end Cert.Proof.Ret

end
-- ==== Proof.RetFirst.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.RetForm

@[expose] public section

set_option maxRecDepth 16384

noncomputable section

namespace Cert.Proof.Ret

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Earlier pieces do not show where the later ones cover. -/
theorem canon_covered {Val : EltTy → Type} [∀ e, Nonempty (Val e)] {s : Shape} {e : EltTy} (L M : List (Idealize.ShloMosaic.View.Piece Val s e)) (y : s.Idx)
    (hc : ∃ p ∈ L, y ∈ p.1.set) : View.canon (L ++ M) y = View.canon L y := by
  induction L with
  | nil => obtain ⟨p, hp, _⟩ := hc; cases hp
  | cons p L ih =>
    by_cases hy : y ∈ p.1.set
    · obtain ⟨x, rfl⟩ := p.1.toLoadRect.exists_idx_of_mem hy
      rw [List.cons_append]
      exact (View.canon_cons_emb p.1 p.2 _ x).trans (View.canon_cons_emb p.1 p.2 _ x).symm
    · rw [List.cons_append, View.canon_cons_of_not_mem p _ hy, View.canon_cons_of_not_mem p _ hy]
      refine ih ?_
      obtain ⟨q, hq, hyq⟩ := hc
      rcases List.mem_cons.1 hq with rfl | hq
      · exact absurd hyq hy
      · exact ⟨q, hq, hyq⟩

/-- The first of the writes, dropped where the others cover. -/
theorem canon_drop {Val : EltTy → Type} [∀ e, Nonempty (Val e)] {s : Shape} {e : EltTy} (L : List (Idealize.ShloMosaic.View.Piece Val s e)) (y : s.Idx)
    (hc : ∃ p ∈ L.take 16, y ∈ p.1.set) : View.canon L y = View.canon (L.take 16) y := by
  conv_lhs => rw [← List.take_append_drop 16 L]
  exact canon_covered _ _ y hc

set_option maxHeartbeats 0 in
/-- What the first point leaves in the carried state. -/
theorem st_A (c : Dev nD) (t : Fin cfg0.N) (h : t.val % 16 = 0) (y) :
    (outsAt0 m c t.val t.isLt).2 y
      = nst (iblk m c 1 t) (iblk m c 2 t) (iblk m c 6 t) (iblk m c 7 t) (fun _ => 0) (y 0) (y 1) (y 2) (y 3) := by
  rw [outsAt0_A m c t h]
  frame_open
  simp (disch := decide) only [↓ View.readCov_skip, ↓ View.readCov_cons_toLoadRect, ↓ View.readCov_fill]
  frame_out
  clear h
  unfold nst
  refine Eq.trans (canon_drop _ y ?hc) ?_
  case hc => exact View.cover_of_tiledL (s := S4x4x128x128) _ S1x1x128x128.size (by sl_kernel_rfl) y
  simp only [List.take_succ_cons, List.take_zero]
  canon_tiles x h
  all_goals (open_payloads; pointwise)
  all_goals (try blk_point [])

end Cert.Proof.Ret

end
-- ==== Proof.RetOutA.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.RetForm

@[expose] public section

set_option maxRecDepth 16384

noncomputable section

namespace Cert.Proof.Ret

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 0 in
/-- What the first point leaves in the output block: the state it has just cleared is zero. -/
theorem out_A (c : Dev nD) (t : Fin cfg0.N) (h : t.val % 16 = 0) (y) :
    (outsAt0 m c t.val t.isLt).1 y
      = gn (fun e => out (iblk m c 0 t) (iblk m c 1 t) (iblk m c 2 t) (iblk m c 4 t) (iblk m c 5 t)
            (fun _ => 0)
            (y 0) ⟨(y 2).val / 128, by have h2 : (y 2).val < 512 := (y 2).isLt; omega⟩ (y 1) e)
          (iblk m c 8 t (ix3 ⟨(y 2).val / 128, by have h2 : (y 2).val < 512 := (y 2).isLt; omega⟩ 0 ⟨(y 2).val % 128, by omega⟩))
          (iblk m c 3 t (ix3 (y 0) (y 1) (y 2))) ⟨(y 2).val % 128, by omega⟩ := by
  rw [outsAt0_A m c t h]
  frame_open
  simp (disch := decide) only [↓ View.readCov_skip, ↓ View.readCov_cons_toLoadRect, ↓ View.readCov_fill]
  frame_out
  clear h
  unfold gn mean out
  canon_tiles x h
  all_goals (open_payloads; pointwise)
  all_goals (try blk_point [])

end Cert.Proof.Ret

end
-- ==== Proof.RetOutB.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.RetForm

@[expose] public section

set_option maxRecDepth 16384

noncomputable section

namespace Cert.Proof.Ret

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 0 in
/-- What a later point leaves in the output block. -/
theorem out_B (c : Dev nD) (t : Fin cfg0.N) (h : ¬ t.val % 16 = 0) (y) :
    (outsAt0 m c t.val t.isLt).1 y
      = gn (fun e => out (iblk m c 0 t) (iblk m c 1 t) (iblk m c 2 t) (iblk m c 4 t) (iblk m c 5 t)
            (outsAt0 m c (t.val - 1) (Nat.lt_of_le_of_lt (Nat.sub_le _ _) t.isLt)).2
            (y 0) ⟨(y 2).val / 128, by have h2 : (y 2).val < 512 := (y 2).isLt; omega⟩ (y 1) e)
          (iblk m c 8 t (ix3 ⟨(y 2).val / 128, by have h2 : (y 2).val < 512 := (y 2).isLt; omega⟩ 0 ⟨(y 2).val % 128, by omega⟩))
          (iblk m c 3 t (ix3 (y 0) (y 1) (y 2))) ⟨(y 2).val % 128, by omega⟩ := by
  rw [outsAt0_B m c t h]
  frame_out
  simp only [read_unread_whole]
  generalize (outsAt0 m c (t.val - 1) (Nat.lt_of_le_of_lt (Nat.sub_le _ _) t.isLt)).2 = st
  clear h
  unfold gn mean out
  canon_tiles x h
  all_goals (open_payloads; pointwise)
  all_goals (try blk_point [])

end Cert.Proof.Ret

end
-- ==== Proof.RetMath.lean ====
module

public import Mathlib.Analysis.SpecialFunctions.Exp
public import Mathlib.Data.EReal.Operations
public import Mathlib.Algebra.BigOperators.Fin

@[expose] public section

noncomputable section

namespace Cert.Proof.Ret

open Finset

/-- The decayed key-value sum over the first `N` positions, at the moment position `N` is about to be read: the recurrent state, over the reals. -/
def kv (L : ℝ) (k v : ℕ → ℝ) (N : ℕ) : ℝ := ∑ j ∈ range N, Real.exp (((N : ℝ) - 1 - j) * L) * (k j * v j)

/-- Retention at position `p` over the reals: every earlier position's value, weighted by its score and the decay over the distance. -/
def par (L : ℝ) (s : ℕ → ℝ) (v : ℕ → ℝ) (p : ℕ) : ℝ := ∑ j ∈ range (p + 1), Real.exp (((p : ℝ) - j) * L) * (s j * v j)

/-- A chunk of `C` positions moves the state from `N` to `N + C`. -/
theorem kv_step (L : ℝ) (k v : ℕ → ℝ) (N C : ℕ) :
    kv L k v (N + C) = kv L k v N * Real.exp (C * L)
      + ∑ j : Fin C, k (N + j) * v (N + j) * Real.exp (((C : ℝ) - 1 - j) * L) := by
  unfold kv
  rw [Finset.sum_range_add, Finset.sum_mul, Finset.sum_range fun x => Real.exp ((((N + C : ℕ) : ℝ) - 1 - ((N + x : ℕ) : ℝ)) * L) * (k (N + x) * v (N + x))]
  congr 1
  · refine Finset.sum_congr rfl fun j _ => ?_
    rw [mul_right_comm, ← Real.exp_add]
    congr 2
    push_cast
    ring
  · refine Finset.sum_congr rfl fun j _ => ?_
    rw [mul_comm]
    congr 2
    push_cast
    ring

/-- Inside a chunk starting at `N`, the chunk's own decayed scores plus the state's part give retention at position `N + i`. -/
theorem par_chunk {D : ℕ} (L : ℝ) (q : Fin D → ℝ) (k : Fin D → ℕ → ℝ) (v : ℕ → ℝ) (N C : ℕ) (i : Fin C) :
    (∑ j : Fin C, (∑ d, q d * k d (N + j)) * (if (j : ℕ) ≤ i then Real.exp (((i : ℝ) - j) * L) else 0) * v (N + j))
      + (∑ d, q d * kv L (k d) v N) * Real.exp (((i : ℝ) + 1) * L)
    = par L (fun j => ∑ d, q d * k d j) v (N + i) := by
  unfold par kv
  rw [add_assoc, Finset.sum_range_add, add_comm]
  congr 1
  · simp only [Finset.mul_sum, Finset.sum_mul]
    rw [Finset.sum_comm]
    refine Finset.sum_congr rfl fun j _ => Finset.sum_congr rfl fun d _ => ?_
    have e : Real.exp ((((N + i : ℕ) : ℝ) - j) * L) = Real.exp (((N : ℝ) - 1 - j) * L) * Real.exp (((i : ℝ) + 1) * L) := by
      rw [← Real.exp_add]; congr 1; push_cast; ring
    rw [e]; ring
  · rw [← Fin.sum_univ_eq_sum_range (fun x => Real.exp ((((N + i : ℕ) : ℝ) - ((N + x : ℕ) : ℝ)) * L)
        * ((∑ d, q d * k d (N + x)) * v (N + x))) (i + 1)]
    have hi := i.isLt
    let emb : Fin ((i : ℕ) + 1) ↪ Fin C := ⟨fun j => ⟨j, by omega⟩, fun a b h => by
      apply Fin.ext; simpa using h⟩
    rw [← Finset.sum_subset (Finset.subset_univ (Finset.univ.map emb))]
    · rw [Finset.sum_map]
      refine Finset.sum_congr rfl fun j _ => ?_
      have hj := j.isLt
      have hj' : ((emb j : Fin C) : ℕ) = j := rfl
      rw [hj', if_pos (by omega)]
      have e : Real.exp ((((N + i : ℕ) : ℝ) - ((N + j : ℕ) : ℝ)) * L) = Real.exp (((i : ℝ) - j) * L) := by
        congr 1; push_cast; ring
      rw [e]; ring
    · intro j _ hj
      rw [if_neg]
      · simp
      · intro h
        exact hj (Finset.mem_map.mpr ⟨⟨j, by omega⟩, Finset.mem_univ _, Fin.ext rfl⟩)

/-- A finite sum of reals, read as an extended real, is the sum of the terms read so. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Ret

end
-- ==== Proof.RetReal.lean ====
module

public import proofs.«01_k».proof.Proof.RetMath
public import proofs.«01_k».proof.Proof.RetTab

@[expose] public section

set_option maxRecDepth 16384

noncomputable section

namespace Cert.Proof.Ret

open Idealize.ShloMosaic Idealize.ShloMosaic.TcCoe Idealize.SL.Sem

/-- A chunk's update of the state over the extended reals, keys decayed. -/
theorem kv_coe {C : ℕ} (l : ℝ) (k v : ℕ → ℝ) (N : ℕ) (w a : ℝ) (hw : w = (C : ℝ)) (ha : a = (C : ℝ) - 1) :
    ((kv l k v N : ℝ) : EReal) * ((Real.exp (w * l) : ℝ) : EReal)
      + ∑ i : Fin C, (((k (N + i.val) : ℝ) : EReal) * ((Real.exp ((a - i.val) * l) : ℝ) : EReal)) * ((v (N + i.val) : ℝ) : EReal)
    = ((kv l k v (N + C) : ℝ) : EReal) := by
  subst hw ha
  rw [kv_step]
  simp only [← EReal.coe_mul]
  rw [← coe_sum, ← EReal.coe_add]
  refine congrArg _ (congrArg _ (Finset.sum_congr rfl fun i _ => ?_))
  ring

/-- A chunk's update of the state over the extended reals, values decayed. -/
theorem kv_coe' {C : ℕ} (l : ℝ) (k v : ℕ → ℝ) (N : ℕ) (w a : ℝ) (hw : w = (C : ℝ)) (ha : a = (C : ℝ) - 1) :
    ((kv l k v N : ℝ) : EReal) * ((Real.exp (w * l) : ℝ) : EReal)
      + ∑ i : Fin C, ((k (N + i.val) : ℝ) : EReal) * (((v (N + i.val) : ℝ) : EReal) * ((Real.exp ((a - i.val) * l) : ℝ) : EReal))
    = ((kv l k v (N + C) : ℝ) : EReal) := by
  subst hw ha
  rw [kv_step]
  simp only [← EReal.coe_mul]
  rw [← coe_sum, ← EReal.coe_add]
  refine congrArg _ (congrArg _ (Finset.sum_congr rfl fun i _ => ?_))
  ring

/-- A chunk's outputs over the extended reals. -/
theorem par_coe {D C : ℕ} (l : ℝ) (q : Fin D → ℝ) (k : Fin D → ℕ → ℝ) (v : ℕ → ℝ) (N : ℕ) (i : Fin C) :
    (∑ j : Fin C, (∑ d, ((q d : ℝ) : EReal) * ((k d (N + j.val) : ℝ) : EReal))
        * (((if j.val ≤ i.val then Real.exp (((i.val : ℝ) - j.val) * l) else 0 : ℝ)) : EReal) * ((v (N + j.val) : ℝ) : EReal))
      + (∑ d, ((q d : ℝ) : EReal) * ((kv l (k d) v N : ℝ) : EReal)) * ((Real.exp (((i.val : ℝ) + 1) * l) : ℝ) : EReal)
    = ((par l (fun j => ∑ d, q d * k d j) v (N + i.val) : ℝ) : EReal) := by
  rw [← par_chunk]
  simp only [← EReal.coe_mul, ← coe_sum, ← EReal.coe_add]

/-- An entry of the projected activations as a real; zero outside the array. -/
def rz (Z : Fin 4 → Fin 4096 → Fin 4096 → EReal) (b : Fin 4) (p c : ℕ) : ℝ :=
  if hp : p < 4096 then if hc : c < 4096 then (Z b ⟨p, hp⟩ ⟨c, hc⟩).toReal else 0 else 0

/-- The columns of queries, keys and values hold real numbers. -/
def Fine (Z : Fin 4 → Fin 4096 → Fin 4096 → EReal) : Prop :=
  ∀ (b : Fin 4) (p c : Fin 4096), 2048 ≤ c.val → c.val < 3584 → Z b p c = (((Z b p c).toReal : ℝ) : EReal)

variable (Z : Fin 4 → Fin 4096 → Fin 4096 → EReal)

theorem rz_coe (hZ : Fine Z) (b : Fin 4) (p c : ℕ) (hp : p < 4096) (hc : c < 4096) (h1 : 2048 ≤ c) (h2 : c < 3584) :
    Z b ⟨p, hp⟩ ⟨c, hc⟩ = ((rz Z b p c : ℝ) : EReal) := by
  unfold rz
  rw [dif_pos hp, dif_pos hc]
  exact hZ b ⟨p, hp⟩ ⟨c, hc⟩ h1 h2

/-- A head's queries, keys and values, by feature and position. -/
def rq (b h : Fin 4) (d : Fin 128) (p : ℕ) : ℝ := rz Z b p (2048 + (h.val * 128 + d.val))
def rk (b h : Fin 4) (d : Fin 128) (p : ℕ) : ℝ := rz Z b p (2560 + (h.val * 128 + d.val))
def rv (b h : Fin 4) (d : Fin 128) (p : ℕ) : ℝ := rz Z b p (3072 + (h.val * 128 + d.val))

theorem q_coe (hZ : Fine Z) (b h : Fin 4) (d : Fin 128) (p : ℕ) (hp : p < 4096) (c : ℕ) (hc : c < 4096) (e : c = 2048 + (h.val * 128 + d.val)) :
    Z b ⟨p, hp⟩ ⟨c, hc⟩ = ((rq Z b h d p : ℝ) : EReal) := by
  subst e; exact rz_coe Z hZ b p _ hp hc (by omega) (by omega)
theorem k_coe (hZ : Fine Z) (b h : Fin 4) (d : Fin 128) (p : ℕ) (hp : p < 4096) (c : ℕ) (hc : c < 4096) (e : c = 2560 + (h.val * 128 + d.val)) :
    Z b ⟨p, hp⟩ ⟨c, hc⟩ = ((rk Z b h d p : ℝ) : EReal) := by
  subst e; exact rz_coe Z hZ b p _ hp hc (by omega) (by omega)
theorem v_coe (hZ : Fine Z) (b h : Fin 4) (d : Fin 128) (p : ℕ) (hp : p < 4096) (c : ℕ) (hc : c < 4096) (e : c = 3072 + (h.val * 128 + d.val)) :
    Z b ⟨p, hp⟩ ⟨c, hc⟩ = ((rv Z b h d p : ℝ) : EReal) := by
  subst e; exact rz_coe Z hZ b p _ hp hc (by omega) (by omega)

/-- The state after `N` positions, and the retention at position `p`, of the activations. -/
def kvZ (b h : Fin 4) (d e : Fin 128) (N : ℕ) : ℝ := kv (L h) (rk Z b h d) (rv Z b h e) N
def parZ (b h : Fin 4) (e : Fin 128) (p : ℕ) : ℝ :=
  par (L h) (fun j => ∑ d, rq Z b h d p * rk Z b h d j) (rv Z b h e) p

end Cert.Proof.Ret

end
-- ==== Proof.RetTables.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetTab

@[expose] public section

set_option maxRecDepth 16384

noncomputable section

namespace Cert.Proof.Ret

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The kernel's decay inside a chunk. -/
theorem d25 (h : Fin 4) (i j : Fin 256) : (V m c main_v25 : FVec Ideal S4x256x256 .f32) (ix3 h i j)
    = (((if j.val ≤ i.val then Real.exp (((i.val : ℝ) - j.val) * L h) else 0 : ℝ)) : EReal) := by
  refine Eq.trans ?_ (decay_eq h i.val j.val (by omega) (by omega))
  unfold lgE
  simp only [V, hostOps0, hostOps0_1, hostOps0_2, List.flatten_cons, List.flatten_nil, List.cons_append, List.nil_append, List.append_nil]
  entry_read
  simp only [StableHlo.TRef.ofBuf, StableHlo.TRef.toBuf, cast_cast, cast_eq]
  pointwise
  try rw [show (id (constant (F := Ideal) S_ FTy.f32 0#32) ix0 : EReal) = 0 from Ideal.ofBits_zero_f32]
  rfl

/-- The kernel's decay from a chunk's start, the same for every feature. -/
theorem d46 (h : Fin 4) (i : Fin 256) (e : Fin 128) : (V m c main_v46 : FVec Ideal S4x256x128 .f32) (ix3 h i e)
    = ((Real.exp (((i.val : ℝ) + 1) * L h) : ℝ) : EReal) := by
  refine Eq.trans ?_ (xi_eq h i.val (by omega))
  unfold lgE
  simp only [V, hostOps0, hostOps0_1, hostOps0_2, List.flatten_cons, List.flatten_nil, List.cons_append, List.nil_append, List.append_nil]
  entry_read
  pointwise
  rfl

/-- The kernel's decay to a chunk's end. -/
theorem d48 (h : Fin 4) (i : Fin 256) (e : Fin 128) : (V m c main_v48 : FVec Ideal S4x256x128 .f32) (ix3 h i e)
    = ((Real.exp (((255 : ℝ) - i.val) * L h) : ℝ) : EReal) := by
  refine Eq.trans ?_ (zeta_eq h i.val (by omega) 255)
  rw [← lit_255]
  unfold lgE
  simp only [V, hostOps0, hostOps0_1, hostOps0_2, List.flatten_cons, List.flatten_nil, List.cons_append, List.nil_append, List.append_nil]
  entry_read
  pointwise
  rfl

/-- The kernel's decay over a chunk. -/
theorem d51 (h : Fin 4) (e : Fin 128) : (V m c main_v51 : FVec Ideal S4x1x128 .f32) (ix3 h 0 e)
    = ((Real.exp ((256 : ℝ) * L h) : ℝ) : EReal) := by
  refine Eq.trans ?_ (whole_eq h 256)
  rw [← lit_256]
  unfold lgE
  simp only [V, hostOps0, hostOps0_1, hostOps0_2, List.flatten_cons, List.flatten_nil, List.cons_append, List.nil_append, List.append_nil]
  entry_read
  pointwise
  rfl

/-- The kernel's gain, by head. -/
theorem d52 (h : Fin 4) (e : Fin 128) : (V m c main_v52 : FVec Ideal S4x1x128 .f32) (ix3 h 0 e)
    = (m ((c : Thread nD τ).loc main_arg1) : FVec Ideal S1x512 .f32) (ix2 0 ⟨h.val * 128 + e.val, by omega⟩) := by
  simp only [V, hostOps0, hostOps0_1, hostOps0_2, List.flatten_cons, List.flatten_nil, List.cons_append, List.nil_append, List.append_nil]
  entry_read
  pointwise

end Cert.Proof.Ret

end
-- ==== Proof.RetBlocks.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetForm
public import proofs.«01_k».proof.Proof.RetReal
public import proofs.«01_k».proof.Proof.RetTables

@[expose] public section

set_option maxRecDepth 16384

noncomputable section

namespace Cert.Proof.Ret

open Idealize.ShloMosaic Idealize.ShloMosaic.TcCoe Idealize.SL.Sem
open Cert.KernelIdeal Cert.KernelIdeal.Gen

variable (m : (ℓ : Loc nD τ sig) → Buf (Elt Ideal) ℓ)

/-- The windows' block indices. -/
theorem idx : ∀ t : Fin cfg0.N, win0_0.index t = ![0, t.val, 4] ∧ win0_1.index t = ![0, t.val, 5] ∧ win0_2.index t = ![0, t.val, 6]
    ∧ win0_3.index t = ![0, t.val, 7] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, t.val, 0] :=
  (by decide +kernel : ∀ t : Fin grid0.N, _)

theorem lt16 (t : Fin cfg0.N) : t.val < 16 := t.isLt

/-- The activations a device holds. -/
def zc (c : Dev nD) (b : Fin 4) (p q : Fin 4096) : EReal := (m ((c : Thread nD τ).loc main_arg0) : FVec Ideal S4x4096x4096 .bf16) (ix3 b p q)

/-- The block of queries at point `t`. -/
theorem q_blk (c : Dev nD) (t : Fin cfg0.N) (b : Fin 4) (i : Fin 256) (n : Fin 512) :
    (iblk m c 0 t : FVec Ideal S4x256x512 .bf16) (ix3 b i n)
      = zc m c b ⟨t.val * 256 + i.val, by have := lt16 t; omega⟩ ⟨2048 + n.val, by omega⟩ := by
  have := lt16 t
  unfold zc
  blk_point [iblk, V, idx t]

/-- The block of keys. -/
theorem k_blk (c : Dev nD) (t : Fin cfg0.N) (b : Fin 4) (i : Fin 256) (n : Fin 512) :
    (iblk m c 1 t : FVec Ideal S4x256x512 .bf16) (ix3 b i n)
      = zc m c b ⟨t.val * 256 + i.val, by have := lt16 t; omega⟩ ⟨2560 + n.val, by omega⟩ := by
  have := lt16 t
  unfold zc
  blk_point [iblk, V, idx t]

/-- The block of values. -/
theorem v_blk (c : Dev nD) (t : Fin cfg0.N) (b : Fin 4) (i : Fin 256) (n : Fin 512) :
    (iblk m c 2 t : FVec Ideal S4x256x512 .bf16) (ix3 b i n)
      = zc m c b ⟨t.val * 256 + i.val, by have := lt16 t; omega⟩ ⟨3072 + n.val, by omega⟩ := by
  have := lt16 t
  unfold zc
  blk_point [iblk, V, idx t]

/-- The block of gates. -/
theorem g_blk (c : Dev nD) (t : Fin cfg0.N) (b : Fin 4) (i : Fin 256) (n : Fin 512) :
    (iblk m c 3 t : FVec Ideal S4x256x512 .bf16) (ix3 b i n)
      = zc m c b ⟨t.val * 256 + i.val, by have := lt16 t; omega⟩ ⟨3584 + n.val, by omega⟩ := by
  have := lt16 t
  unfold zc
  blk_point [iblk, V, idx t]

/-- The decay tables' blocks are the whole tables. -/
theorem b4 (c : Dev nD) (t : Fin cfg0.N) (h : Fin 4) (i j : Fin 256) :
    (iblk m c 4 t : FVec Ideal S4x256x256 .f32) (ix3 h i j)
      = (((if j.val ≤ i.val then Real.exp (((i.val : ℝ) - j.val) * L h) else 0 : ℝ)) : EReal) := by
  refine Eq.trans ?_ (d25 m c h i j)
  blk_ext [iblk, idx t]

theorem b5 (c : Dev nD) (t : Fin cfg0.N) (h : Fin 4) (i : Fin 256) (e : Fin 128) :
    (iblk m c 5 t : FVec Ideal S4x256x128 .f32) (ix3 h i e) = ((Real.exp (((i.val : ℝ) + 1) * L h) : ℝ) : EReal) := by
  refine Eq.trans ?_ (d46 m c h i e)
  blk_ext [iblk, idx t]

theorem b6 (c : Dev nD) (t : Fin cfg0.N) (h : Fin 4) (i : Fin 256) (e : Fin 128) :
    (iblk m c 6 t : FVec Ideal S4x256x128 .f32) (ix3 h i e) = ((Real.exp (((255 : ℝ) - i.val) * L h) : ℝ) : EReal) := by
  refine Eq.trans ?_ (d48 m c h i e)
  blk_ext [iblk, idx t]

theorem b7 (c : Dev nD) (t : Fin cfg0.N) (h : Fin 4) (e : Fin 128) :
    (iblk m c 7 t : FVec Ideal S4x1x128 .f32) (ix3 h 0 e) = ((Real.exp ((256 : ℝ) * L h) : ℝ) : EReal) := by
  refine Eq.trans ?_ (d51 m c h e)
  blk_ext [iblk, idx t]

theorem b8 (c : Dev nD) (t : Fin cfg0.N) (h : Fin 4) (e : Fin 128) :
    (iblk m c 8 t : FVec Ideal S4x1x128 .f32) (ix3 h 0 e)
      = (m ((c : Thread nD τ).loc main_arg1) : FVec Ideal S1x512 .f32) (ix2 0 ⟨h.val * 128 + e.val, by omega⟩) := by
  refine Eq.trans ?_ (d52 m c h e)
  blk_ext [iblk, idx t]

/-- A chunk takes the decayed sum over the positions before it to the one over its own positions too. -/
theorem nst_at (c : Dev nD) (hZ : Fine (zc m c)) (t : Fin cfg0.N) (st : FVec Ideal S4x4x128x128 .f32) (b h : Fin 4) (d e : Fin 128)
    (hst : st (ix4 b h d e) = ((kvZ (zc m c) b h d e (t.val * 256) : ℝ) : EReal)) :
    nst (iblk m c 1 t) (iblk m c 2 t) (iblk m c 6 t) (iblk m c 7 t) st b h d e
      = ((kvZ (zc m c) b h d e ((t.val + 1) * 256) : ℝ) : EReal) := by
  unfold nst
  rw [hst, b7]
  unfold kvZ
  rw [Nat.succ_mul]
  refine Eq.trans ?_ (kv_coe' (C := 256) (L h) _ _ (t.val * 256) 256 255 (by norm_num) (by norm_num))
  refine congrArg₂ (· + ·) rfl (Finset.sum_congr rfl fun i _ => ?_)
  refine congrArg₂ (· * ·) ((k_blk m c t b i _).trans (k_coe (zc m c) hZ b h d _ _ _ _ rfl))
    (congrArg₂ (· * ·) ((v_blk m c t b i _).trans (v_coe (zc m c) hZ b h e _ _ _ _ rfl)) (b6 m c t h i e))

/-- A chunk's outputs are the retention at its positions. -/
theorem out_par (c : Dev nD) (hZ : Fine (zc m c)) (t : Fin cfg0.N) (st : FVec Ideal S4x4x128x128 .f32) (b h : Fin 4) (i : Fin 256) (e : Fin 128)
    (hst : ∀ d, st (ix4 b h d e) = ((kvZ (zc m c) b h d e (t.val * 256) : ℝ) : EReal)) :
    out (iblk m c 0 t) (iblk m c 1 t) (iblk m c 2 t) (iblk m c 4 t) (iblk m c 5 t) st b h i e
      = ((parZ (zc m c) b h e (t.val * 256 + i.val) : ℝ) : EReal) := by
  unfold out parZ
  refine Eq.trans ?_ (par_coe (D := 128) (C := 256) (L h) (fun d => rq (zc m c) b h d (t.val * 256 + i.val)) (fun d => rk (zc m c) b h d) _ (t.val * 256) i)
  refine congrArg₂ (· + ·) (Finset.sum_congr rfl fun l _ => ?_) (congrArg₂ (· * ·) (Finset.sum_congr rfl fun d _ => ?_) (b5 m c t h i e))
  · refine congrArg₂ (· * ·) (congrArg₂ (· * ·) (Finset.sum_congr rfl fun d _ => ?_) (b4 m c t h i l)) ?_
    · exact congrArg₂ (· * ·) ((q_blk m c t b i _).trans (q_coe (zc m c) hZ b h d _ _ _ _ rfl)) ((k_blk m c t b l _).trans (k_coe (zc m c) hZ b h d _ _ _ _ rfl))
    · exact (v_blk m c t b l _).trans (v_coe (zc m c) hZ b h e _ _ _ _ rfl)
  · exact congrArg₂ (· * ·) ((q_blk m c t b i _).trans (q_coe (zc m c) hZ b h d _ _ _ _ rfl)) (hst d)

end Cert.Proof.Ret

end
-- ==== Proof.RetRef.lean ====
module

public import proofs.«01_k».proof.Proof.Gen.ReferenceIdeal.Step
public import proofs.«01_k».proof.Proof.RetTab
public import Idealize.ShloMosaic.Lib.Pointwise

@[expose] public section

set_option maxRecDepth 16384

noncomputable section

namespace Cert.Proof.Ret

open Idealize.ShloMosaic Idealize.ShloMosaic.TcCoe Idealize.SL.Sem
open Cert.ReferenceIdeal Cert.ReferenceIdeal.Gen Cert.ReferenceIdeal.Step

/-- The reference's logarithm of the decay. -/
theorem k19 (h : Fin 4) : K_main_v19 (F := Ideal) (ix1 h) = lgE h := by
  pointwise [K_main_v19, K_main_v18, K_main_v17, K_main_v16, K_main_v15, K_main_v14, K_main_v13, K_main_v12, K_main_cst, K_main_cst_0]
  try rfl

/-- The reference's decay inside a chunk. -/
theorem k36 (h : Fin 4) (i j : Fin 128) :
    K_main_v36 (F := Ideal) (ix3 h i j) = (((if j.val ≤ i.val then Real.exp (((i.val : ℝ) - j.val) * L h) else 0 : ℝ)) : EReal) := by
  refine Eq.trans ?_ (decay_eq h i.val j.val (by omega) (by omega))
  pointwise [K_main_v36, K_main_call0_v1, K_main_call0_v2, K_main_call0_v0, K_main_v35, K_main_v34, K_main_v33, K_main_v32, K_main_v31,
    K_main_v30, K_main_v29, K_main_v28, K_main_v27, K_main_v26, K_main_v25, K_main_v24, K_main_v23, K_main_v22, K_main_v21, K_main_v20, K_main_cst_1, K_main_cst_2, K_main_cst_3, k19]
  rw [show (id (constant (F := Ideal) S_ FTy.f32 0#32) ix0 : EReal) = 0 from Ideal.ofBits_zero_f32]
  rfl

/-- The reference's decay from a chunk's start. -/
theorem k44 (h : Fin 4) (i : Fin 128) : K_main_v44 (F := Ideal) (ix2 h i) = ((Real.exp (((i.val : ℝ) + 1) * L h) : ℝ) : EReal) := by
  refine Eq.trans ?_ (xi_eq h i.val (by omega))
  pointwise [K_main_v44, K_main_v43, K_main_v42, K_main_v41, K_main_v40, K_main_v39, K_main_v38, K_main_v37, K_main_v20, K_main_cst_4, k19]
  try rfl

/-- The reference's decay to a chunk's end. -/
theorem k52 (h : Fin 4) (i : Fin 128) : K_main_v52 (F := Ideal) (ix2 h i) = ((Real.exp (((127 : ℝ) - i.val) * L h) : ℝ) : EReal) := by
  refine Eq.trans ?_ (zeta_eq h i.val (by omega) 127)
  rw [← lit_127]
  pointwise [K_main_v52, K_main_v51, K_main_v50, K_main_v49, K_main_v48, K_main_v47, K_main_v46, K_main_v45, K_main_v20, K_main_cst_5, k19]
  try rfl

/-- The reference's decay over a chunk. -/
theorem k55 (h : Fin 4) : K_main_v55 (F := Ideal) (ix1 h) = ((Real.exp ((128 : ℝ) * L h) : ℝ) : EReal) := by
  refine Eq.trans ?_ (whole_eq h 128)
  rw [← lit_128]
  pointwise [K_main_v55, K_main_v54, K_main_v53, K_main_cst_6, k19]
  try rfl

/-- The queries by chunk: the third quarter's first columns of `z`. -/
theorem a58 (z : FVec Ideal S4x4096x4096 .bf16) (n : Fin 32) (b h : Fin 4) (i d : Fin 128) :
    A_main_v58 (F := Ideal) z (ix5 n b h i d) = z (ix3 b ⟨n.val * 128 + i.val, by omega⟩ ⟨2048 + (h.val * 128 + d.val), by omega⟩) := by
  pointwise [A_main_v58, A_main_v57, A_main_v7, A_main_v6, A_main_v3, A_main_v0]

/-- The keys by chunk. -/
theorem a60 (z : FVec Ideal S4x4096x4096 .bf16) (n : Fin 32) (b h : Fin 4) (i d : Fin 128) :
    A_main_v60 (F := Ideal) z (ix5 n b h i d) = z (ix3 b ⟨n.val * 128 + i.val, by omega⟩ ⟨2560 + (h.val * 128 + d.val), by omega⟩) := by
  pointwise [A_main_v60, A_main_v59, A_main_v9, A_main_v8, A_main_v4, A_main_v1]

/-- The values by chunk. -/
theorem a62 (z : FVec Ideal S4x4096x4096 .bf16) (n : Fin 32) (b h : Fin 4) (i d : Fin 128) :
    A_main_v62 (F := Ideal) z (ix5 n b h i d) = z (ix3 b ⟨n.val * 128 + i.val, by omega⟩ ⟨3072 + (h.val * 128 + d.val), by omega⟩) := by
  pointwise [A_main_v62, A_main_v61, A_main_v11, A_main_v10, A_main_v5, A_main_v2]

/-- A trip's number as the slices read it, clamped to the last chunk. -/
theorem start : ∀ j : Fin 32, (min (max ((BitVec.ofNat 32 j.val).toInt) 0) ((32 - 1 : ℕ) : ℤ)).toNat = j.val := by decide

/-- The slice of a trip's chunk. -/
theorem slice_at (x : FVec Ideal S32x4x4x128x128 .f32) (j : Fin 32) (st : Fin 5 → ℤ) (h0 : st 0 = (BitVec.ofNat 32 j.val).toInt)
    (h1 : st 1 = 0) (h2 : st 2 = 0) (h3 : st 3 = 0) (h4 : st 4 = 0) (hs : S32x4x4x128x128.Slices (fun _ => 0) S1x4x4x128x128)
    (a : Fin 1) (b h : Fin 4) (i d : Fin 128) :
    Host.dynamicSlice S1x4x4x128x128 x st hs (ix5 a b h i d) = x (ix5 j b h i d) := by
  have e := start j
  rw [Host.dynamicSlice_apply]
  refine congrArg x (funext fun k => Fin.ext ?_)
  match k with
  | ⟨0, _⟩ => show (min (max (st 0) 0) ((32 - 1 : ℕ) : ℤ)).toNat + a.val = j.val; rw [h0, e]; omega
  | ⟨1, _⟩ => show (min (max (st 1) 0) ((4 - 4 : ℕ) : ℤ)).toNat + b.val = b.val; rw [h1]; simp
  | ⟨2, _⟩ => show (min (max (st 2) 0) ((4 - 4 : ℕ) : ℤ)).toNat + h.val = h.val; rw [h2]; simp
  | ⟨3, _⟩ => show (min (max (st 3) 0) ((128 - 128 : ℕ) : ℤ)).toNat + i.val = i.val; rw [h3]; simp
  | ⟨4, _⟩ => show (min (max (st 4) 0) ((128 - 128 : ℕ) : ℤ)).toNat + d.val = d.val; rw [h4]; simp

/-- The update of a trip's chunk. -/
theorem update_at (x : FVec Ideal S32x4x4x128x128 .f32) (u : FVec Ideal S1x4x4x128x128 .f32) (j : Fin 32) (st : Fin 5 → ℤ)
    (h0 : st 0 = (BitVec.ofNat 32 j.val).toInt) (h1 : st 1 = 0) (h2 : st 2 = 0) (h3 : st 3 = 0) (h4 : st 4 = 0)
    (hs : S32x4x4x128x128.Slices (fun _ => 0) S1x4x4x128x128) (n : Fin 32) (b h : Fin 4) (i d : Fin 128) :
    Host.dynamicUpdateSlice x u st hs (ix5 n b h i d) = if n = j then u (ix5 0 b h i d) else x (ix5 n b h i d) := by
  have e := start j
  have c0 : Host.clampedStart S32x4x4x128x128 S1x4x4x128x128 hs.1 st 0 = j.val := by
    show (min (max (st 0) 0) ((32 - 1 : ℕ) : ℤ)).toNat = j.val; rw [h0, e]
  have c1 : Host.clampedStart S32x4x4x128x128 S1x4x4x128x128 hs.1 st 1 = 0 := by
    show (min (max (st 1) 0) ((4 - 4 : ℕ) : ℤ)).toNat = 0; rw [h1]; simp
  have c2 : Host.clampedStart S32x4x4x128x128 S1x4x4x128x128 hs.1 st 2 = 0 := by
    show (min (max (st 2) 0) ((4 - 4 : ℕ) : ℤ)).toNat = 0; rw [h2]; simp
  have c3 : Host.clampedStart S32x4x4x128x128 S1x4x4x128x128 hs.1 st 3 = 0 := by
    show (min (max (st 3) 0) ((128 - 128 : ℕ) : ℤ)).toNat = 0; rw [h3]; simp
  have c4 : Host.clampedStart S32x4x4x128x128 S1x4x4x128x128 hs.1 st 4 = 0 := by
    show (min (max (st 4) 0) ((128 - 128 : ℕ) : ℤ)).toNat = 0; rw [h4]; simp
  rw [Host.dynamicUpdateSlice_apply]
  by_cases hn : n = j
  · subst hn
    rw [dif_pos, if_pos rfl]
    · refine congrArg u (funext fun k => Fin.ext ?_)
      match k with
      | ⟨0, _⟩ => show n.val - Host.clampedStart S32x4x4x128x128 S1x4x4x128x128 hs.1 st 0 = 0; rw [c0]; omega
      | ⟨1, _⟩ => show b.val - Host.clampedStart S32x4x4x128x128 S1x4x4x128x128 hs.1 st 1 = b.val; rw [c1]; omega
      | ⟨2, _⟩ => show h.val - Host.clampedStart S32x4x4x128x128 S1x4x4x128x128 hs.1 st 2 = h.val; rw [c2]; omega
      | ⟨3, _⟩ => show i.val - Host.clampedStart S32x4x4x128x128 S1x4x4x128x128 hs.1 st 3 = i.val; rw [c3]; omega
      | ⟨4, _⟩ => show d.val - Host.clampedStart S32x4x4x128x128 S1x4x4x128x128 hs.1 st 4 = d.val; rw [c4]; omega
    · intro k
      match k with
      | ⟨0, _⟩ => show Host.clampedStart S32x4x4x128x128 S1x4x4x128x128 hs.1 st 0 ≤ n.val ∧ n.val < Host.clampedStart S32x4x4x128x128 S1x4x4x128x128 hs.1 st 0 + 1; rw [c0]; omega
      | ⟨1, _⟩ => show Host.clampedStart S32x4x4x128x128 S1x4x4x128x128 hs.1 st 1 ≤ b.val ∧ b.val < Host.clampedStart S32x4x4x128x128 S1x4x4x128x128 hs.1 st 1 + 4; rw [c1]; omega
      | ⟨2, _⟩ => show Host.clampedStart S32x4x4x128x128 S1x4x4x128x128 hs.1 st 2 ≤ h.val ∧ h.val < Host.clampedStart S32x4x4x128x128 S1x4x4x128x128 hs.1 st 2 + 4; rw [c2]; omega
      | ⟨3, _⟩ => show Host.clampedStart S32x4x4x128x128 S1x4x4x128x128 hs.1 st 3 ≤ i.val ∧ i.val < Host.clampedStart S32x4x4x128x128 S1x4x4x128x128 hs.1 st 3 + 128; rw [c3]; omega
      | ⟨4, _⟩ => show Host.clampedStart S32x4x4x128x128 S1x4x4x128x128 hs.1 st 4 ≤ d.val ∧ d.val < Host.clampedStart S32x4x4x128x128 S1x4x4x128x128 hs.1 st 4 + 128; rw [c4]; omega
  · rw [dif_neg, if_neg hn]
    intro hin
    have h := hin 0
    have h' : Host.clampedStart S32x4x4x128x128 S1x4x4x128x128 hs.1 st 0 ≤ n.val ∧ n.val < Host.clampedStart S32x4x4x128x128 S1x4x4x128x128 hs.1 st 0 + 1 := h
    rw [c0] at h'
    exact hn (Fin.ext (by omega))

/-- A trip's chunk of queries. -/
theorem b5_at (j : Fin 32) (s : State Ideal) (b h : Fin 4) (i d : Fin 128) : b5 j.val s (ix4 b h i d) = s.main_v64_0 (ix5 j b h i d) := by
  pointwise [b5]
  unfold b4
  exact slice_at _ j _ rfl rfl rfl rfl rfl _ _ b h i d

/-- A trip's chunk of keys. -/
theorem b11_at (j : Fin 32) (s : State Ideal) (b h : Fin 4) (i d : Fin 128) : b11 j.val s (ix4 b h i d) = s.main_v64_1 (ix5 j b h i d) := by
  pointwise [b11]
  unfold b10
  exact slice_at _ j _ rfl rfl rfl rfl rfl _ _ b h i d

/-- A trip's chunk of values. -/
theorem b17_at (j : Fin 32) (s : State Ideal) (b h : Fin 4) (i d : Fin 128) : b17 j.val s (ix4 b h i d) = s.main_v64_2 (ix5 j b h i d) := by
  pointwise [b17]
  unfold b16
  exact slice_at _ j _ rfl rfl rfl rfl rfl _ _ b h i d

/-- The state a trip leaves. -/
theorem b35_at (j : Fin 32) (s : State Ideal) (b h : Fin 4) (d e : Fin 128) :
    b35 j.val s (ix4 b h d e) = s.main_v64_8 (ix4 b h d e) * ((Real.exp ((128 : ℝ) * L h) : ℝ) : EReal)
      + ∑ i : Fin 128, (s.main_v64_1 (ix5 j b h i d) * ((Real.exp (((127 : ℝ) - i.val) * L h) : ℝ) : EReal)) * s.main_v64_2 (ix5 j b h i e) := by
  pointwise [b35, b34, b33, b32, b31, b30, b29, b28, b11_at, b17_at, k52, k55]

/-- The outputs of a trip's chunk. -/
theorem b27_at (j : Fin 32) (s : State Ideal) (b h : Fin 4) (i e : Fin 128) :
    b27 j.val s (ix4 b h i e)
      = (∑ l : Fin 128, (∑ d : Fin 128, s.main_v64_0 (ix5 j b h i d) * s.main_v64_1 (ix5 j b h l d))
            * (((if l.val ≤ i.val then Real.exp (((i.val : ℝ) - l.val) * L h) else 0 : ℝ)) : EReal) * s.main_v64_2 (ix5 j b h l e))
        + (∑ d : Fin 128, s.main_v64_0 (ix5 j b h i d) * s.main_v64_8 (ix4 b h d e)) * ((Real.exp (((i.val : ℝ) + 1) * L h) : ℝ) : EReal) := by
  pointwise [b27, b26, b25, b24, b23, b22, b21, b20, b19, b18, b5_at, b11_at, b17_at, k36, k44]

/-- The outputs after a trip: its chunk's are new, the others as before. -/
theorem b41_at (j : Fin 32) (s : State Ideal) (n : Fin 32) (b h : Fin 4) (i e : Fin 128) :
    b41 j.val s (ix5 n b h i e) = if n = j then b27 j.val s (ix4 b h i e) else s.main_v64_9 (ix5 n b h i e) := by
  unfold b41
  refine (update_at _ _ j _ rfl rfl rfl rfl rfl _ n b h i e).trans ?_
  have hb : b36 j.val s (ix5 0 b h i e) = b27 j.val s (ix4 b h i e) := by pointwise [b36]
  rw [hb]

end Cert.Proof.Ret

end
-- ==== Proof.RetRun.lean ====
module

public import proofs.«01_k».proof.Proof.Gen.ReferenceIdeal.Run
public import proofs.«01_k».proof.Proof.Gen.ReferenceIdeal.Step

@[expose] public section

set_option maxRecDepth 16384

noncomputable section

namespace Cert.Proof.Ret

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Step

variable {F : FTy → Type} [FloatOps F]

/-- The loop's buffers hold the state before trip `j`: queries, keys, values, the carried state and the outputs so far, with the
    trip's number and the four decay tables. -/
structure Carries (V : Valuation τ sig (Elt F)) (s : State F) (j : ℕ) : Prop where
  st : V (Proc.devRef .tc main_v64_8) = s.main_v64_8
  os : V (Proc.devRef .tc main_v64_9) = s.main_v64_9
  qs : V (Proc.devRef .tc main_v64_0) = s.main_v64_0
  ks : V (Proc.devRef .tc main_v64_1) = s.main_v64_1
  vs : V (Proc.devRef .tc main_v64_2) = s.main_v64_2
  trip : V (Proc.devRef .tc main_v64_7) = constantI S_ 32 (BitVec.ofNat 32 j)
  decay : V (Proc.devRef .tc main_v64_3) = K_main_v36 (F := F)
  xi : V (Proc.devRef .tc main_v64_4) = K_main_v44 (F := F)
  whole : V (Proc.devRef .tc main_v64_5) = K_main_v55 (F := F)
  zeta : V (Proc.devRef .tc main_v64_6) = K_main_v52 (F := F)

variable {V : Valuation τ sig (Elt F)} {s : State F} {j : ℕ}

/-- The trip's chunk of queries. -/
theorem q_of (h : Carries V s j) : res_main_while0b_v96 V = b5 j s := by
  unfold res_main_while0b_v96; rw [h.qs, h.trip]; rfl

/-- The trip's chunk of keys. -/
theorem k_of (h : Carries V s j) : res_main_while0b_v97 V = b11 j s := by
  unfold res_main_while0b_v97; rw [h.ks, h.trip]; rfl

/-- The trip's chunk of values. -/
theorem v_of (h : Carries V s j) : res_main_while0b_v98 V = b17 j s := by
  unfold res_main_while0b_v98; rw [h.vs, h.trip]; rfl

/-- The state one trip leaves. -/
theorem st_of (h : Carries V s j) : Value.step_main_v64_8 V = b35 j s := by
  unfold Value.step_main_v64_8; rw [k_of h, v_of h, h.st, h.whole, h.zeta]; rfl

/-- The outputs one trip leaves. -/
theorem os_of (h : Carries V s j) : Value.step_main_v64_9 V = b41 j s := by
  unfold Value.step_main_v64_9; rw [q_of h, k_of h, v_of h, h.st, h.os, h.decay, h.xi, h.trip]; rfl

/-- The trip's number goes up by one. -/
theorem trip_of (h : Carries V s j) : step_main_v64_7 V = constantI S_ 32 (BitVec.ofNat 32 (j + 1)) := by
  unfold step_main_v64_7
  rw [h.trip]
  exact funext fun _ => (BitVec.ofNat_add j 1).symm

/-- A trip takes the buffers from one state to the next. -/
theorem Carries.next (h : Carries V s j) : Carries (STEP V) (step j s) (j + 1) :=
  ⟨(STEP_main_v64_8 V).trans (st_of h), (STEP_main_v64_9 V).trans (os_of h), (STEP_main_v64_0 V).trans h.qs,
   (STEP_main_v64_1 V).trans h.ks, (STEP_main_v64_2 V).trans h.vs, (STEP_main_v64_7 V).trans (trip_of h),
   (STEP_main_v64_3 V).trans h.decay, (STEP_main_v64_4 V).trans h.xi, (STEP_main_v64_5 V).trans h.whole,
   (STEP_main_v64_6 V).trans h.zeta⟩

variable (m : (ℓ : Loc nD τ sig) → Buf (Elt F) ℓ) (c : Dev nD)

set_option maxRecDepth 65536 in
set_option maxHeartbeats 500000 in
/-- The buffers when the loop starts: the arguments' chunks, zero state and outputs. -/
theorem carries_entry : Carries (entryContents preI m c) (init (m ((c.tc : Thread nD τ).loc main_arg0))) 0 := by
  constructor <;> (simp only [entryContents, afterL_cons, afterL_nil]; after_reads_simp) <;> rfl

/-- The states of the loop: the first from the argument, each later one by a trip. -/
def states (z : (⟨S4x4096x4096, .bf16⟩ : BufTy).Contents (Elt F)) : ℕ → State F
  | 0 => init z
  | n + 1 => step n (states z n)

/-- Before trip `n` the buffers hold state `n`. -/
theorem carries_at : ∀ n, Carries (STEP^[n] (entryContents preI m c)) (states (m ((c.tc : Thread nD τ).loc main_arg0)) n) n
  | 0 => carries_entry m c
  | n + 1 => by rw [Function.iterate_succ_apply']; exact (carries_at n).next

/-- What the operations after the loop make of the loop's outputs and the arguments. -/
theorem result_of_outputs (V : Valuation τ sig (Elt F)) (s : State F) (z : (⟨S4x4096x4096, .bf16⟩ : BufTy).Contents (Elt F))
    (g : (⟨S1x512, .f32⟩ : BufTy).Contents (Elt F)) (h9 : V (Proc.devRef .tc main_v64_9) = s.main_v64_9)
    (h0 : V (Proc.devRef .tc main_arg0) = z) (h1 : V (Proc.devRef .tc main_arg1) = g) : out_main_v95 V = R_main_v95 s z g := by
  unfold out_main_v95 R_main_v95
  rw [h9, h0, h1]
  rfl

/-- What the operations after the loop make of the last state. -/
theorem result_of : out_main_v95 (STEP^[32] (entryContents preI m c))
    = R_main_v95 (states (m ((c.tc : Thread nD τ).loc main_arg0)) 32) (m ((c.tc : Thread nD τ).loc main_arg0)) (m ((c.tc : Thread nD τ).loc main_arg1)) :=
  result_of_outputs _ _ _ _ (carries_at m c 32).os (iter_main_arg0 m c 32) (iter_main_arg1 m c 32)

end Cert.Proof.Ret

end
-- ==== Proof.RetRefValue.lean ====
module

public import proofs.«01_k».proof.Proof.RetRef
public import proofs.«01_k».proof.Proof.RetRun
public import proofs.«01_k».proof.Proof.RetReal

@[expose] public section

set_option maxRecDepth 16384

noncomputable section

namespace Cert.Proof.Ret

open Idealize.ShloMosaic Idealize.ShloMosaic.TcCoe Idealize.SL.Sem
open Cert.ReferenceIdeal Cert.ReferenceIdeal.Gen Cert.ReferenceIdeal.Step

variable (z : FVec Ideal S4x4096x4096 .bf16)

/-- The trips keep the queries, keys and values. -/
theorem keep (n : ℕ) : (states (F := Ideal) z n).main_v64_0 = A_main_v58 (F := Ideal) z ∧ (states (F := Ideal) z n).main_v64_1 = A_main_v60 (F := Ideal) z ∧ (states (F := Ideal) z n).main_v64_2 = A_main_v62 (F := Ideal) z := by
  induction n with
  | zero => exact ⟨rfl, rfl, rfl⟩
  | succ n ih => exact ih

/-- The state before trip `n` is the decayed sum over the first `128 n` positions. -/
theorem state_at (hZ : Fine fun b p c => z (ix3 b p c)) (n : ℕ) (hn : n ≤ 32) (b h : Fin 4) (d e : Fin 128) :
    (states (F := Ideal) z n).main_v64_8 (ix4 b h d e) = ((kvZ (fun b p c => z (ix3 b p c)) b h d e (n * 128) : ℝ) : EReal) := by
  induction n with
  | zero =>
    have e0 : K_main_v56 (F := Ideal) (ix4 b h d e) = 0 := by pointwise [K_main_v56, K_main_cst_7]
    refine Eq.trans (show _ = K_main_v56 (F := Ideal) (ix4 b h d e) from rfl) (e0.trans ?_)
    unfold kvZ kv
    simp
  | succ n ih =>
    have hj : n < 32 := by omega
    refine (b35_at ⟨n, hj⟩ (states (F := Ideal) z n) b h d e).trans ?_
    obtain ⟨-, ek, ev⟩ := keep z n
    rw [ih (by omega), ek, ev]
    unfold kvZ
    rw [Nat.succ_mul]
    refine Eq.trans ?_ (kv_coe (C := 128) (L h) _ _ (n * 128) 128 127 (by norm_num) (by norm_num))
    refine congrArg₂ (· + ·) rfl (Finset.sum_congr rfl fun i _ => ?_)
    rw [a60, a62]
    exact congrArg₂ (· * ·) (congrArg₂ (· * ·) (k_coe (fun b p c => z (ix3 b p c)) hZ b h d _ _ _ _ rfl) rfl) (v_coe (fun b p c => z (ix3 b p c)) hZ b h e _ _ _ _ rfl)

/-- The outputs of the chunks before trip `n` are the retention at their positions. -/
theorem outs_at (hZ : Fine fun b p c => z (ix3 b p c)) (n : ℕ) (hn : n ≤ 32) (k : Fin 32) (hk : k.val < n) (b h : Fin 4) (i e : Fin 128) :
    (states (F := Ideal) z n).main_v64_9 (ix5 k b h i e) = ((parZ (fun b p c => z (ix3 b p c)) b h e (k.val * 128 + i.val) : ℝ) : EReal) := by
  induction n with
  | zero => omega
  | succ n ih =>
    have hj : n < 32 := by omega
    refine (b41_at ⟨n, hj⟩ (states (F := Ideal) z n) k b h i e).trans ?_
    by_cases hkn : k = ⟨n, hj⟩
    · subst hkn
      rw [if_pos rfl, b27_at]
      obtain ⟨eq, ek, ev⟩ := keep z n
      rw [eq, ek, ev]
      unfold parZ
      refine Eq.trans ?_ (par_coe (D := 128) (C := 128) (L h) (fun d => rq (fun b p c => z (ix3 b p c)) b h d (n * 128 + i.val)) (fun d => rk (fun b p c => z (ix3 b p c)) b h d) _ (n * 128) i)
      refine congrArg₂ (· + ·) (Finset.sum_congr rfl fun l _ => ?_) (congrArg₂ (· * ·) (Finset.sum_congr rfl fun d _ => ?_) rfl)
      · refine congrArg₂ (· * ·) (congrArg₂ (· * ·) (Finset.sum_congr rfl fun d _ => ?_) rfl) ?_
        · rw [a58, a60]
          exact congrArg₂ (· * ·) (q_coe (fun b p c => z (ix3 b p c)) hZ b h d _ _ _ _ rfl) (k_coe (fun b p c => z (ix3 b p c)) hZ b h d _ _ _ _ rfl)
        · rw [a62]
          exact v_coe (fun b p c => z (ix3 b p c)) hZ b h e _ _ _ _ rfl
      · rw [a58]
        exact congrArg₂ (· * ·) (q_coe (fun b p c => z (ix3 b p c)) hZ b h d _ _ _ _ rfl) (state_at z hZ n (by omega) b h d e)
    · rw [if_neg hkn]
      exact ih (by omega) (by have : k.val ≠ n := fun h => hkn (Fin.ext h)
                              omega)

/-- The reference's result of a loop's last state. -/
theorem R_at (s : State Ideal) (g : FVec Ideal S1x512 .f32) (b : Fin 4) (p : Fin 4096) (c : Fin 512) :
    R_main_v95 (F := Ideal) s z g (ix3 b p c)
      = gn (fun e => s.main_v64_9 (ix5 ⟨p.val / 128, by omega⟩ b ⟨c.val / 128, by omega⟩ ⟨p.val % 128, by omega⟩ e))
          (g (ix2 0 c)) (z (ix3 b p ⟨3584 + c.val, by omega⟩)) ⟨c.val % 128, by omega⟩ := by
  unfold gn mean Ideal.logistic
  pointwise [R_main_v95]
  done

/-- The reference's result. -/
theorem ref_at (hZ : Fine fun b p c => z (ix3 b p c)) (g : FVec Ideal S1x512 .f32) (b : Fin 4) (p : Fin 4096) (c : Fin 512) :
    R_main_v95 (F := Ideal) (states (F := Ideal) z 32) z g (ix3 b p c)
      = gn (fun e => ((parZ (fun b p c => z (ix3 b p c)) b ⟨c.val / 128, by omega⟩ e p.val : ℝ) : EReal))
          (g (ix2 0 c)) (z (ix3 b p ⟨3584 + c.val, by omega⟩)) ⟨c.val % 128, by omega⟩ := by
  refine (R_at z _ g b p c).trans ?_
  refine congr (congr (congr (congrArg gn (funext fun e => ?_)) rfl) rfl) rfl
  refine (outs_at z hZ 32 le_rfl _ (by show p.val / 128 < 32; omega) b _ _ e).trans ?_
  refine congrArg _ (congrArg _ ?_)
  show p.val / 128 * 128 + p.val % 128 = p.val
  omega

end Cert.Proof.Ret

end
-- ==== Proof.RetValue.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetBlock
public import proofs.«01_k».proof.Proof.RetFirst
public import proofs.«01_k».proof.Proof.RetOutA
public import proofs.«01_k».proof.Proof.RetOutB
public import proofs.«01_k».proof.Proof.RetBlocks
public import proofs.«01_k».proof.Proof.RetRefValue

@[expose] public section

set_option maxRecDepth 16384

noncomputable section

namespace Cert.Proof.Ret

open Idealize.ShloMosaic Idealize.ShloMosaic.TcCoe Idealize.SL.Sem
open Cert.KernelIdeal Cert.KernelIdeal.Gen

variable (m : (ℓ : Loc nD τ sig) → Buf (Elt Ideal) ℓ)

/-- No position before the first chunk. -/
theorem kvZ_zero (Z : Fin 4 → Fin 4096 → Fin 4096 → EReal) (b h : Fin 4) (d e : Fin 128) : (0 : EReal) = ((kvZ Z b h d e (0 * 256) : ℝ) : EReal) := by
  unfold kvZ kv
  simp

/-- The state after point `n` is the decayed sum over the first `256 (n + 1)` positions. -/
theorem carried (c : Dev nD) (hZ : Fine (zc m c)) (n : ℕ) (hn : n < cfg0.N) (b h : Fin 4) (d e : Fin 128) :
    (outsAt0 m c n hn).2 (ix4 b h d e) = ((kvZ (zc m c) b h d e ((n + 1) * 256) : ℝ) : EReal) := by
  induction n generalizing b h d e with
  | zero =>
    exact (st_A m c ⟨0, hn⟩ rfl (ix4 b h d e)).trans (nst_at m c hZ ⟨0, hn⟩ (fun _ => 0) b h d e (kvZ_zero _ b h d e))
  | succ n ih =>
    have hN : n + 1 < 16 := hn
    exact (st_B m c ⟨n + 1, hn⟩ (by show ¬ (n + 1) % 16 = 0; omega) (ix4 b h d e)).trans
      (nst_at m c hZ ⟨n + 1, hn⟩ _ b h d e (ih (Nat.lt_of_succ_lt hn) b h d e))

/-- What every point leaves in the output block. -/
theorem out_at (c : Dev nD) (hZ : Fine (zc m c)) (t : Fin cfg0.N) (b : Fin 4) (i : Fin 256) (n : Fin 512) :
    (outsAt0 m c t.val t.isLt).1 (ix3 b i n)
      = gn (fun e => ((parZ (zc m c) b ⟨n.val / 128, by omega⟩ e (t.val * 256 + i.val) : ℝ) : EReal))
          ((m ((c : Thread nD τ).loc main_arg1) : FVec Ideal S1x512 .f32) (ix2 0 n))
          (zc m c b ⟨t.val * 256 + i.val, by have := lt16 t; omega⟩ ⟨3584 + n.val, by omega⟩) ⟨n.val % 128, by omega⟩ := by
  have hN := lt16 t
  have e8 : (iblk m c 8 t : FVec Ideal S4x1x128 .f32) (ix3 ⟨n.val / 128, by omega⟩ 0 ⟨n.val % 128, by omega⟩)
      = (m ((c : Thread nD τ).loc main_arg1) : FVec Ideal S1x512 .f32) (ix2 0 n) := by
    refine (b8 m c t _ _).trans (congrArg (fun k => (m ((c : Thread nD τ).loc main_arg1) : FVec Ideal S1x512 .f32) (ix2 0 k)) (Fin.ext ?_))
    show n.val / 128 * 128 + n.val % 128 = n.val
    omega
  by_cases h : t.val % 16 = 0
  · refine (out_A m c t h (ix3 b i n)).trans ?_
    have h0 : t.val = 0 := by omega
    refine congr (congr (congr (congrArg gn (funext fun e => ?_)) e8) (g_blk m c t b i n)) rfl
    exact out_par m c hZ t _ b _ i e fun d => by rw [h0]; exact kvZ_zero _ b _ d e
  · refine (out_B m c t h (ix3 b i n)).trans ?_
    refine congr (congr (congr (congrArg gn (funext fun e => ?_)) e8) (g_blk m c t b i n)) rfl
    refine out_par m c hZ t _ b _ i e fun d => (carried m c hZ (t.val - 1) _ b _ d e).trans ?_
    rw [show t.val - 1 + 1 = t.val by omega]

/-- The reference's result over the kernel's arguments. -/
abbrev res (c : Dev nD) : FVec Ideal Cert.ReferenceIdeal.S4x4096x512 .bf16 :=
  Cert.ReferenceIdeal.Step.R_main_v95 (F := Ideal) (states (F := Ideal) (m ((c : Thread nD τ).loc main_arg0)) 32)
    (m ((c : Thread nD τ).loc main_arg0)) (m ((c : Thread nD τ).loc main_arg1))

/-- The result array after the run is the reference's result. -/
theorem final (c : Dev nD) (hZ : Fine (zc m c)) : (dats m 0 c).arrAt 9 cfg0.N = res m c := by
  refine (dats m 0 c).arrAt_eq_of_covers 9 _ (by decide +kernel) fun t hf y => ?_
  have hN := lt16 t
  blk_simp
  have b0 : (y 0).val < 4 := (y 0).isLt
  have b1 : (y 1).val < 256 := (y 1).isLt
  have b2 : (y 2).val < 512 := (y 2).isLt
  have ey : y = ix3 (⟨(y 0).val, b0⟩ : Fin 4) (⟨(y 1).val, b1⟩ : Fin 256) (⟨(y 2).val, b2⟩ : Fin 512) := by
    blk_ext []
  have e : (ix3 ⟨(y 0).val, b0⟩ ⟨t.val * 256 + (y 1).val, by omega⟩ ⟨(y 2).val, b2⟩ : Cert.ReferenceIdeal.S4x4096x512.Idx) = ((cfg0.win 9).blk t).view.emb y := by
    blk_ext [idx t]
  rw [after0_9]
  refine Eq.trans ?_ (congrArg (res m c) e)
  refine Eq.trans ?_ (ref_at (m ((c : Thread nD τ).loc main_arg0)) hZ (m ((c : Thread nD τ).loc main_arg1)) ⟨(y 0).val, b0⟩ ⟨t.val * 256 + (y 1).val, by omega⟩ ⟨(y 2).val, b2⟩).symm
  refine Eq.trans (congrArg (outsAt0 m c t.val t.isLt).1 ey) ?_
  exact out_at m c hZ t _ _ _

end Cert.Proof.Ret

end
-- ==== Proof.RetAlg.lean ====
module

public import proofs.«01_k».proof.Defs
public import proofs.«01_k».proof.Proof.RetValue
public import proofs.«01_k».proof.Proof.RetRun
public import Idealize.ShloMosaic.Lib.Decide
public import proofs.«01_k».proof.Proof.Gen.KernelIdeal.Value
public import proofs.«01_k».proof.Proof.Gen.ReferenceIdeal.Run
public import Idealize.ShloMosaic.Lib.Claim
public import Idealize.ShloMosaic.Lib.Pointwise

@[expose] public section

set_option maxRecDepth 16384

noncomputable section

namespace Cert.Proof.Ret

open Idealize.ShloMosaic Idealize.ShloMosaic.TcCoe Idealize.SL.Sem

/-- The slice and the broadcast of the precondition fit their shapes. -/
instance preFacts : Cert.Pre_finite_qkv.Facts where
  slices_S4x4096x4096_S4x4096x1536_0_0_2048 := by decide
  bitsLt_bf16_f32 := by decide
  bcast_S_S4x4096x1536 := by decide

/-- An extended real whose absolute value is below infinity is a real. -/
theorem real_of_lt (x : EReal) (h : max x (-x) < ⊤) : x = ((x.toReal : ℝ) : EReal) := by
  refine (EReal.coe_toReal ?_ ?_).symm
  · rintro rfl; simp at h
  · rintro rfl; simp at h

/-- The literal the precondition compares with is infinity. -/
theorem lit_inf : Ideal.ofBits .f32 (0x7F800000#32) = (⊤ : EReal) := by
  simp [Ideal.ofBits, Ideal.ieee]

/-- The precondition at one element. -/
theorem fine_of_pre (z : FVec Ideal Cert.KernelIdeal.S4x4096x4096 .bf16) (g : FVec Ideal Cert.KernelIdeal.S1x512 .f32)
    (h : Cert.Pre_finite_qkv.fn (F := Ideal) z g = fun _ => 1#1) : Fine (fun b p q => z (ix3 b p q)) := by
  intro b p q h1 h2
  have e := congrFun h (ix3 b p ⟨q.val - 2048, by omega⟩)
  have k : Cert.Pre_finite_qkv.fn (F := Ideal) z g (ix3 b p ⟨q.val - 2048, by omega⟩)
      = BitVec.ofBool (decide (max (z (ix3 b p q) : EReal) (-(z (ix3 b p q) : EReal)) < ⊤)) := by
    unfold Cert.Pre_finite_qkv.fn
    pointwise
    rw [lit_inf, Ideal.absf_def, show (⟨2048 + (q.val - 2048), by omega⟩ : Fin 4096) = q from Fin.ext (by show 2048 + (q.val - 2048) = q.val; omega)]
  rw [k] at e
  refine real_of_lt _ ?_
  by_contra hn
  rw [decide_eq_false hn] at e
  exact absurd e (by decide)

/-- The retention's kernel and its reference leave the same array. -/
theorem algebraic : Cert.algebraic_KernelIdeal_ReferenceIdeal_pre_finite_qkv := fun m ρ m' ρ' hp hag =>
  ⟨fun c => res m c,
    (θ_run _ _ _).mono (fun _ h c => ⟨(h c).1.trans (final m c (fine_of_pre _ _ (hp c))), (h c).2⟩) (Cert.KernelIdeal.Value.run_blocks m ρ),
    (θ_run _ _ _).mono (fun _ h c => ⟨((h c).1.trans (result_of m' c)).trans
        (by obtain ⟨h0, h1⟩ := hag c; rw [h0, h1]), (h c).2⟩)
      (Cert.ReferenceIdeal.Value.run (F := Ideal) m' ρ')⟩

end Cert.Proof.Ret

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.ReferenceIdeal.Step
public import proofs.«01_k».proof.Proof.ProjValue
public import proofs.«01_k».proof.Proof.OutValue
public import proofs.«01_k».proof.Proof.RetAlg
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the retention terminates, leaves its arguments as they were and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference of the output stage terminates, leaves its arguments as they were and declares no semaphore. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The reference of the projection terminates, leaves its arguments as they were and declares no semaphore. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Everything that is claimed: the frames and the values of the retention, the output stage and the projection. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Proof.Ret.preFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  trivial, Cert.Proof.Ret.algebraic, trivial, Cert.Proof.Out.algebraic, trivial, Cert.Proof.Proj.algebraic⟩

end Cert.Proof

end
